-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e_8" .f32 0x3E38AA3B#32 (((Real.log 2)⁻¹ * 8⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1x2048x1024 .f32) (main_arg2 : FVec F S1x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S1x2048x1024 1 × IVec S1x2048x1024 1 × IVec S1024x1024 1 × IVec S1024 1 × IVec S1024x1024 1 × IVec S1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1024x1024 .f32 := Host.absf main_arg3
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Kernel.lean ====
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S16x64x1024 : Shape := ⟨3, ![16, 64, 1024]⟩
abbrev S16x64x1 : Shape := ⟨3, ![16, 64, 1]⟩
abbrev S1x1024 : Shape := ⟨2, ![1, 1024]⟩
abbrev S16x64x2048 : Shape := ⟨3, ![16, 64, 2048]⟩
abbrev S16x72x2048 : Shape := ⟨3, ![16, 72, 2048]⟩
abbrev S512x1024 : Shape := ⟨2, ![512, 1024]⟩
abbrev S16x64x512 : Shape := ⟨3, ![16, 64, 512]⟩
abbrev S16x72x512 : Shape := ⟨3, ![16, 72, 512]⟩
abbrev S16x8x512 : Shape := ⟨3, ![16, 8, 512]⟩
abbrev S1x64x2048 : Shape := ⟨3, ![1, 64, 2048]⟩
abbrev S1x72x2048 : Shape := ⟨3, ![1, 72, 2048]⟩
abbrev S64x2048 : Shape := ⟨2, ![64, 2048]⟩
abbrev S72x2048 : Shape := ⟨2, ![72, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S7x2048 : Shape := ⟨2, ![7, 2048]⟩
abbrev S8x2048 : Shape := ⟨2, ![8, 2048]⟩
abbrev S2048x2048 : Shape := ⟨2, ![2048, 2048]⟩
abbrev S16x1x512 : Shape := ⟨3, ![16, 1, 512]⟩
abbrev S1024x512 : Shape := ⟨2, ![1024, 512]⟩

abbrev nBuf : Space → Nat
  | .hbm => 31
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S16x64x1024, .f32⟩
  | .hbm, ⟨15, _⟩ => ⟨S16x64x1024, .bf16⟩
  | .hbm, ⟨16, _⟩ => ⟨S16x64x1024, .f32⟩
  | .hbm, ⟨17, _⟩ => ⟨S16x64x1024, .bf16⟩
  | .hbm, ⟨18, _⟩ => ⟨S16x64x1024, .f32⟩
  | .hbm, ⟨19, _⟩ => ⟨S16x64x1024, .bf16⟩
  | .hbm, ⟨20, _⟩ => ⟨S16x64x1, .f32⟩
  | .hbm, ⟨21, _⟩ => ⟨S16x64x1, .f32⟩
  | .hbm, ⟨22, _⟩ => ⟨S16x64x1, .f32⟩
  | .hbm, ⟨23, _⟩ => ⟨S1x1024, .f32⟩
  | .hbm, ⟨24, _⟩ => ⟨S16x64x2048, .bf16⟩
  | .hbm, ⟨25, _⟩ => ⟨S16x72x2048, .bf16⟩
  | .hbm, ⟨26, _⟩ => ⟨S16x72x2048, .bf16⟩
  | .hbm, ⟨27, _⟩ => ⟨S16x72x2048, .bf16⟩
  | .hbm, ⟨28, _⟩ => ⟨S1024x1024, .bf16⟩
  | .hbm, ⟨29, _⟩ => ⟨S2048x1024, .f32⟩
  | .hbm, ⟨30, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x64x1024, .bf16⟩
  | .local _ .vmem, ⟨7, _⟩ => ⟨S16x64x1024, .bf16⟩
  | .local _ .vmem, ⟨8, _⟩ => ⟨S16x64x1024, .bf16⟩
  | .local _ .vmem, ⟨9, _⟩ => ⟨S16x64x1, .f32⟩
  | .local _ .vmem, ⟨10, _⟩ => ⟨S16x64x1, .f32⟩
  | .local _ .vmem, ⟨11, _⟩ => ⟨S16x64x1, .f32⟩
  | .local _ .vmem, ⟨12, _⟩ => ⟨S16x64x512, .bf16⟩
  | .local _ .vmem, ⟨13, _⟩ => ⟨S16x64x512, .bf16⟩
  | .local _ .vmem, ⟨14, _⟩ => ⟨S16x72x512, .bf16⟩
  | .local _ .vmem, ⟨15, _⟩ => ⟨S16x72x512, .bf16⟩
  | .local _ .vmem, ⟨16, _⟩ => ⟨S16x72x512, .bf16⟩
  | .local _ .vmem, ⟨17, _⟩ => ⟨S16x72x512, .bf16⟩
  | .local _ .vmem, ⟨18, _⟩ => ⟨S1x64x2048, .bf16⟩
  | .local _ .vmem, ⟨19, _⟩ => ⟨S1x64x2048, .bf16⟩
  | .local _ .vmem, ⟨20, _⟩ => ⟨S1x72x2048, .bf16⟩
  | .local _ .vmem, ⟨21, _⟩ => ⟨S1x72x2048, .bf16⟩
  | .local _ .vmem, ⟨22, _⟩ => ⟨S1x72x2048, .bf16⟩
  | .local _ .vmem, ⟨23, _⟩ => ⟨S1x72x2048, .bf16⟩
  | .local _ .vmem, ⟨24, _⟩ => ⟨S1x72x2048, .bf16⟩
  | .local _ .vmem, ⟨25, _⟩ => ⟨S1x72x2048, .bf16⟩
  | .local _ .vmem, ⟨26, _⟩ => ⟨S16x72x512, .bf16⟩
  | .local _ .vmem, ⟨27, _⟩ => ⟨S16x72x512, .bf16⟩
  | .local _ .vmem, ⟨28, _⟩ => ⟨S1024x1024, .bf16⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x72x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x72x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x72x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x72x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x72x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x72x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "log2e_8" => some (((Real.log 2)⁻¹ * 8⁻¹ : ℝ) : EReal)
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S2048x3 : Shape := ⟨2, ![2048, 3]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S_ : Shape := ⟨0, ![]⟩
abbrev S2048x3x1 : Shape := ⟨3, ![2048, 3, 1]⟩
abbrev S1x16x2048x3x64 : Shape := ⟨5, ![1, 16, 2048, 3, 64]⟩
abbrev S1x16x2048x3 : Shape := ⟨4, ![1, 16, 2048, 3]⟩
abbrev S1x16x2048 : Shape := ⟨3, ![1, 16, 2048]⟩
abbrev S1x16x2048x1 : Shape := ⟨4, ![1, 16, 2048, 1]⟩
abbrev S1x16x64 : Shape := ⟨3, ![1, 16, 64]⟩
abbrev S1x16x1x64 : Shape := ⟨4, ![1, 16, 1, 64]⟩
abbrev S16x2048x1 : Shape := ⟨3, ![16, 2048, 1]⟩
abbrev S1 : Shape := ⟨1, ![1]⟩
abbrev S1x1x1 : Shape := ⟨3, ![1, 1, 1]⟩
abbrev S16x2048 : Shape := ⟨2, ![16, 2048]⟩
abbrev S1x16x2048x2048 : Shape := ⟨4, ![1, 16, 2048, 2048]⟩
abbrev S16 : Shape := ⟨1, ![16]⟩
abbrev S1x16x1 : Shape := ⟨3, ![1, 16, 1]⟩

abbrev nBuf : Space → Nat
  | .hbm => 162
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2048x3, .i32⟩
  | 12 => ⟨S1024x1024, .f32⟩
  | 13 => ⟨S1x2048x1024, .f32⟩
  | 14 => ⟨S1x1x1024, .f32⟩
  | 15 => ⟨S1x2048x1024, .f32⟩
  | 16 => ⟨S1x2048x1024, .f32⟩
  | 17 => ⟨S1x2048x16x64, .f32⟩
  | 18 => ⟨S1x16x2048x64, .f32⟩
  | 19 => ⟨S1024x1024, .f32⟩
  | 20 => ⟨S1x2048x1024, .f32⟩
  | 21 => ⟨S1x1x1024, .f32⟩
  | 22 => ⟨S1x2048x1024, .f32⟩
  | 23 => ⟨S1x2048x1024, .f32⟩
  | 24 => ⟨S1x2048x16x64, .f32⟩
  | 25 => ⟨S1x16x2048x64, .f32⟩
  | 26 => ⟨S1024x1024, .f32⟩
  | 27 => ⟨S1x2048x1024, .f32⟩
  | 28 => ⟨S1x1x1024, .f32⟩
  | 29 => ⟨S1x2048x1024, .f32⟩
  | 30 => ⟨S1x2048x1024, .f32⟩
  | 31 => ⟨S1x2048x16x64, .f32⟩
  | 32 => ⟨S1x16x2048x64, .f32⟩
  | 33 => ⟨S_, .i32⟩
  | 34 => ⟨S2048x3, .i32⟩
  | 35 => ⟨S2048x3, .i1⟩
  | 36 => ⟨S_, .i32⟩
  | 37 => ⟨S2048x3, .i32⟩
  | 38 => ⟨S2048x3, .i32⟩
  | 39 => ⟨S2048x3, .i32⟩
  | 40 => ⟨S2048x3x1, .i32⟩
  | 41 => ⟨S1x16x2048x3x64, .f32⟩
  | 42 => ⟨S1x16x2048x3, .f32⟩
  | 43 => ⟨S_, .f32⟩
  | 44 => ⟨S1x16x2048x3, .f32⟩
  | 45 => ⟨S1x16x2048x3, .f32⟩
  | 46 => ⟨S_, .f32⟩
  | 47 => ⟨S1x16x2048, .f32⟩
  | 48 => ⟨S1x16x2048x1, .f32⟩
  | 49 => ⟨S1x16x2048x1, .f32⟩
  | 50 => ⟨S_, .f32⟩
  | 51 => ⟨S1x16x2048x1, .f32⟩
  | 52 => ⟨S1x16x2048x1, .i1⟩
  | 53 => ⟨S_, .f32⟩
  | 54 => ⟨S_, .f32⟩
  | 55 => ⟨S1x16x2048x1, .f32⟩
  | 56 => ⟨S1x16x2048x1, .f32⟩
  | 57 => ⟨S1x16x2048x3, .f32⟩
  | 58 => ⟨S1x16x2048x3, .f32⟩
  | 59 => ⟨S1x16x2048x3, .f32⟩
  | 60 => ⟨S_, .f32⟩
  | 61 => ⟨S1x16x2048, .f32⟩
  | 62 => ⟨S1x16x2048, .f32⟩
  | 63 => ⟨S1x16x2048, .f32⟩
  | 64 => ⟨S1x16x2048, .f32⟩
  | 65 => ⟨S_, .f32⟩
  | 66 => ⟨S1x16x2048, .f32⟩
  | 67 => ⟨S_, .f32⟩
  | 68 => ⟨S1x16x2048, .f32⟩
  | 69 => ⟨S1x16x2048, .f32⟩
  | 70 => ⟨S1x16x2048, .f32⟩
  | 71 => ⟨S1x16x2048, .f32⟩
  | 72 => ⟨S1x16x2048, .i32⟩
  | 73 => ⟨S_, .f32⟩
  | 74 => ⟨S1x16x64, .f32⟩
  | 75 => ⟨S1x16x1x64, .f32⟩
  | 76 => ⟨S_, .f32⟩
  | 77 => ⟨S1x16x1x64, .f32⟩
  | 78 => ⟨S1x16x1x64, .f32⟩
  | 79 => ⟨S1x16x2048x64, .f32⟩
  | 80 => ⟨S1x16x2048x1, .i32⟩
  | 81 => ⟨S_, .i32⟩
  | 82 => ⟨S1x16x2048x1, .i32⟩
  | 83 => ⟨S1x16x2048x1, .i1⟩
  | 84 => ⟨S_, .i32⟩
  | 85 => ⟨S1x16x2048x1, .i32⟩
  | 86 => ⟨S1x16x2048x1, .i32⟩
  | 87 => ⟨S1x16x2048x1, .i32⟩
  | 88 => ⟨S16x2048x1, .i32⟩
  | 89 => ⟨S1, .i32⟩
  | 90 => ⟨S_, .i32⟩
  | 91 => ⟨S16x2048x1, .i32⟩
  | 92 => ⟨S16x2048x1, .i1⟩
  | 93 => ⟨S1x1x1, .i32⟩
  | 94 => ⟨S16x2048x1, .i32⟩
  | 95 => ⟨S16x2048x1, .i1⟩
  | 96 => ⟨S16x2048x1, .i1⟩
  | 97 => ⟨S_, .i1⟩
  | 98 => ⟨S16x2048, .i1⟩
  | 99 => ⟨S1x16x2048x64, .f32⟩
  | 100 => ⟨S1x16x2048x64, .i1⟩
  | 101 => ⟨S_, .f32⟩
  | 102 => ⟨S1x16x2048x64, .f32⟩
  | 103 => ⟨S1x16x2048x64, .f32⟩
  | 104 => ⟨S1x16x2048x2048, .f32⟩
  | 105 => ⟨S_, .f32⟩
  | 106 => ⟨S1x16x2048x2048, .f32⟩
  | 107 => ⟨S1x16x2048x2048, .f32⟩
  | 108 => ⟨S_, .f32⟩
  | 109 => ⟨S1x16x2048, .f32⟩
  | 110 => ⟨S_, .f32⟩
  | 111 => ⟨S1x16x2048, .f32⟩
  | 112 => ⟨S1x16x2048, .f32⟩
  | 113 => ⟨S1x16x2048x1, .f32⟩
  | 114 => ⟨S1x16x2048x2048, .f32⟩
  | 115 => ⟨S1x16x2048x2048, .f32⟩
  | 116 => ⟨S1x16x2048x2048, .f32⟩
  | 117 => ⟨S_, .f32⟩
  | 118 => ⟨S1x16x2048, .f32⟩
  | 119 => ⟨S1x16x2048x1, .f32⟩
  | 120 => ⟨S1x16x2048x2048, .f32⟩
  | 121 => ⟨S1x16x2048x2048, .f32⟩
  | 122 => ⟨S1x16x2048x64, .f32⟩
  | 123 => ⟨S1, .i32⟩
  | 124 => ⟨S1x1x1, .i32⟩
  | 125 => ⟨S16, .i32⟩
  | 126 => ⟨S1x16x1, .i32⟩
  | 127 => ⟨S_, .i32⟩
  | _ => ⟨S1x2048x1024, .f32⟩

abbrev hbmTy0_1 (i : Nat) : BufTy := match i % 128 with
  | 0 => ⟨S1x1x1, .i32⟩
  | 1 => ⟨S1x1x1, .i1⟩
  | 2 => ⟨S_, .i32⟩
  | 3 => ⟨S1x1x1, .i32⟩
  | 4 => ⟨S1x1x1, .i32⟩
  | 5 => ⟨S1x1x1, .i32⟩
  | 6 => ⟨S_, .i32⟩
  | 7 => ⟨S1x16x1, .i32⟩
  | 8 => ⟨S1x16x1, .i1⟩
  | 9 => ⟨S_, .i32⟩
  | 10 => ⟨S1x16x1, .i32⟩
  | 11 => ⟨S1x16x1, .i32⟩
  | 12 => ⟨S1x16x1, .i32⟩
  | 13 => ⟨S_, .i32⟩
  | 14 => ⟨S1x16x2048, .i32⟩
  | 15 => ⟨S1x16x2048, .i1⟩
  | 16 => ⟨S_, .i32⟩
  | 17 => ⟨S1x16x2048, .i32⟩
  | 18 => ⟨S1x16x2048, .i32⟩
  | 19 => ⟨S1x16x2048, .i32⟩
  | 20 => ⟨S1x16x2048, .i32⟩
  | 21 => ⟨S1x16x2048, .i32⟩
  | 22 => ⟨S1x16x2048x1, .i32⟩
  | 23 => ⟨S1x16x2048x1, .i32⟩
  | 24 => ⟨S1x16x2048x1, .i32⟩
  | 25 => ⟨S1x16x2048x3, .i32⟩
  | 26 => ⟨S1x16x2048x64, .f32⟩
  | 27 => ⟨S1x2048x16x64, .f32⟩
  | 28 => ⟨S1x2048x1024, .f32⟩
  | 29 => ⟨S1024x1024, .f32⟩
  | 30 => ⟨S1x2048x1024, .f32⟩
  | 31 => ⟨S1x1x1024, .f32⟩
  | 32 => ⟨S1x2048x1024, .f32⟩
  | 33 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_values : Ref sig .tc := ⟨.hbm, 71, rfl⟩
abbrev main_indices : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_c_1 : Ref sig .tc := ⟨.hbm, 89, rfl⟩
abbrev main_call1_c_2 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_3 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_call1_cst : Ref sig .tc := ⟨.hbm, 101, rfl⟩
abbrev main_call1_v15 : Ref sig .tc := ⟨.hbm, 102, rfl⟩
abbrev main_v54 : Ref sig .tc := ⟨.hbm, 103, rfl⟩
abbrev main_v55 : Ref sig .tc := ⟨.hbm, 104, rfl⟩
abbrev main_cst_10 : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_13 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_14 : Ref sig .tc := ⟨.hbm, 127, rfl⟩
abbrev main_v74 : Ref sig .tc := ⟨.hbm, 128, rfl⟩
abbrev main_v75 : Ref sig .tc := ⟨.hbm, 129, rfl⟩
abbrev main_c_15 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_16 : Ref sig .tc := ⟨.hbm, 134, rfl⟩
abbrev main_v79 : Ref sig .tc := ⟨.hbm, 135, rfl⟩
abbrev main_v80 : Ref sig .tc := ⟨.hbm, 136, rfl⟩
abbrev main_c_17 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_c_18 : Ref sig .tc := ⟨.hbm, 141, rfl⟩
abbrev main_v84 : Ref sig .tc := ⟨.hbm, 142, rfl⟩
abbrev main_v85 : Ref sig .tc := ⟨.hbm, 143, rfl⟩
abbrev main_c_19 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩

abbrev nD : Nat := 1
abbrev τ : Topo := Topo.v7x

variable {F : FTy → Type} [FloatOps F]
-- ==== Proof.Spec.lean ====
/-
  The attention layer in plain sums over the extended reals: the three projections per head, the softmax-weighted
  sum of the values and the output projection, each as a function of coordinates.
-/
module

public import Idealize.ShloMosaic.Lib.Pointwise

@[expose] public section

noncomputable section

namespace Cert.Attention

open Idealize.ShloMosaic
open scoped BigOperators

/-- The column of the model dimension that entry `d` of head `h` occupies. -/
def col (h : Fin 16) (d : Fin 64) : Fin 1024 := ⟨h.val * 64 + d.val, by omega⟩

/-- The head a column of the model dimension belongs to. -/
def headOf (c : Fin 1024) : Fin 16 := ⟨c.val / 64, by omega⟩

/-- A column's place inside its head. -/
def placeOf (c : Fin 1024) : Fin 64 := ⟨c.val % 64, by omega⟩

/-- Entry `d` of head `h` of the projection of position `l`: the row of `X` times the row of `W`, plus the bias. -/
def proj (X : (⟨3, ![1, 2048, 1024]⟩ : Shape).Idx → EReal) (W : (⟨2, ![1024, 1024]⟩ : Shape).Idx → EReal)
    (b : (⟨1, ![1024]⟩ : Shape).Idx → EReal) (h : Fin 16) (l : Fin 2048) (d : Fin 64) : EReal :=
  (∑ c : Fin 1024, X (ix3 0 l c) * W (ix2 (col h d) c)) + b (ix1 (col h d))

/-- A head's scores: query `l` against key `k`, over the square root of the head's width. -/
def score (q k : Fin 2048 → Fin 64 → EReal) (l m : Fin 2048) : EReal :=
  Ideal.div (∑ d : Fin 64, q l d * k m d) 8

/-- The greatest score of query `l`. -/
def top (s : Fin 2048 → EReal) : EReal := max ⊥ (Finset.univ.fold max ⊥ s)

/-- A query's weights before they are normalised. -/
def weight (s : Fin 2048 → EReal) (m : Fin 2048) : EReal := Ideal.exp (s m - top s)

/-- The softmax of the scores `s` applied to the values `v`. -/
def attend (s v : Fin 2048 → EReal) : EReal :=
  ∑ m : Fin 2048, Ideal.div (weight s m) (∑ n : Fin 2048, weight s n) * v m

/-- A head's 64 rows with eight below them: one row of `s`, then zeros. -/
def padded (x : Fin 64 → EReal) (s : EReal) (e : Fin 72) : EReal :=
  if he : e.val < 64 then x ⟨e.val, he⟩ else if e.val = 64 then s else 0

/-- The kernel's shift of a query's scores: minus the query's norm times the greatest key norm. -/
def shiftOf (q : Fin 64 → EReal) (k : Fin 2048 → Fin 64 → EReal) : EReal :=
  (0 - Ideal.sqrt (∑ d : Fin 64, q d * q d)) * Ideal.sqrt (Finset.univ.fold max ⊥ fun m => ∑ d : Fin 64, k m d * k m d)

/-- The kernel's weight of key `m` for the scaled query `q`. -/
def rawWeight (q : Fin 64 → EReal) (k : Fin 2048 → Fin 64 → EReal) (m : Fin 2048) : EReal :=
  Ideal.exp2 (∑ e : Fin 72, padded (k m) 1 e * padded q (shiftOf q k) e)

/-- The kernel's row `e` of a head's context for the scaled query `q`: 64 rows of weighted values, then the sum of the weights. -/
def rawRow (q : Fin 64 → EReal) (k v : Fin 2048 → Fin 64 → EReal) (e : Fin 72) : EReal :=
  ∑ m : Fin 2048, padded (v m) 1 e * rawWeight q k m

/-- The output projection of a position's concatenated heads. -/
def outProj (ctx : Fin 16 → Fin 64 → EReal) (W : (⟨2, ![1024, 1024]⟩ : Shape).Idx → EReal)
    (b : (⟨1, ![1024]⟩ : Shape).Idx → EReal) (j : Fin 1024) : EReal :=
  (∑ c : Fin 1024, ctx (headOf c) (placeOf c) * W (ix2 j c)) + b (ix1 j)

end Cert.Attention

end
-- ==== Proof.RefParts.lean ====
/-
  The reference's named intermediate arrays, read at an index: the projections, the positions the top-k picks, the scores
  and weights of the picked queries.
-/
module

public import proofs.«01_k».proof.Proof.Spec
public import proofs.«01_k».proof.Proof.Gen.ReferenceIdeal
public import proofs.«01_k».proof.Proof.Gen.ReferenceIdeal.Run
public import Idealize.ShloMosaic.Lib.Pointwise
public import Idealize.ShloMosaic.Lib.SortFacts
public import Idealize.ShloMosaic.Lib.Tactic.CleanTypes
public import Idealize.ShloMosaic.Lib.Routing.OpsPair
public import Idealize.ShloMosaic.Lib.ReduceAll

@[expose] public section

set_option maxRecDepth 16384

noncomputable section

namespace Cert.ReferenceIdeal.Read

open Idealize.ShloMosaic Cert.ReferenceIdeal Cert.ReferenceIdeal.Value Cert.Attention
open Cert.ReferenceIdeal.Facts Cert.ReferenceIdeal.Facts₀
open scoped BigOperators

variable (V0 : Valuation τ sig (Elt Ideal))

/-- The queries, by head. -/
theorem queries (h : Fin 16) (l : Fin 2048) (d : Fin 64) :
    (res_main_v6 V0 : S1x16x2048x64.Idx → EReal) (ix4 0 h l d)
      = proj (V0 (Proc.devRef .tc main_arg0)) (V0 (Proc.devRef .tc main_arg3)) (V0 (Proc.devRef .tc main_arg4)) h l d := by
  unfold proj res_main_v6
  pointwise
  rfl

/-- The keys, by head. -/
theorem keys (h : Fin 16) (l : Fin 2048) (d : Fin 64) :
    (res_main_v13 V0 : S1x16x2048x64.Idx → EReal) (ix4 0 h l d)
      = proj (V0 (Proc.devRef .tc main_arg1)) (V0 (Proc.devRef .tc main_arg5)) (V0 (Proc.devRef .tc main_arg6)) h l d := by
  unfold proj res_main_v13
  pointwise
  rfl

/-- The values, by head. -/
theorem values (h : Fin 16) (l : Fin 2048) (d : Fin 64) :
    (res_main_v20 V0 : S1x16x2048x64.Idx → EReal) (ix4 0 h l d)
      = proj (V0 (Proc.devRef .tc main_arg2)) (V0 (Proc.devRef .tc main_arg7)) (V0 (Proc.devRef .tc main_arg8)) h l d := by
  unfold proj res_main_v20
  pointwise
  rfl

/-- The query that the top-k of the sparsity measure lists at place `r` for head `h`. -/
def pick (h : Fin 16) (r : Fin 2048) : Fin 2048 :=
  sortedFrom (fun k k' : Fin 2048 => FloatOps.cmpfTotal (F := Ideal) (φ := .f32) .gt
    (res_main_v47 V0 (ix3 0 h k)) (res_main_v47 V0 (ix3 0 h k')) == 1#1) r

/-- Every query is listed once: the top-k is as long as the list of queries. -/
theorem pick_surjective (h : Fin 16) : Function.Surjective (pick V0 h) := sortedFrom_surjective _

theorem pick_injective (h : Fin 16) : Function.Injective (pick V0 h) := sortedFrom_injective _

/-- A head's place in the head axis. -/
theorem along_last (h : Fin 16) (r k : Fin 2048) : ((ix3 0 h r : S1x16x2048.Idx)).along 2 k = ix3 0 h k := by
  funext a
  match a with
  | ⟨0, _⟩ => rfl
  | ⟨1, _⟩ => rfl
  | ⟨2, _⟩ => rfl

/-- The position words of a full-length top-k along the last axis are the sorted positions. -/
theorem topK_positions (x : S1x16x2048.Idx → EReal) (gt : EReal → EReal → BitVec 1) (hs : S1x16x2048.Slices (fun _ => 0) S1x16x2048)
    (h : Fin 16) (r : Fin 2048) :
    (Host.topK S1x16x2048 2 gt x hs).2 (ix3 0 h r)
      = BitVec.ofNat 32 (sortedFrom (fun k k' : Fin 2048 => gt (x (ix3 0 h k)) (x (ix3 0 h k')) == 1#1) r).val := by
  unfold Host.topK Host.sort2
  pointwise
  simp only [along_last]
  rfl

/-- The position words of the top-k are the picks. -/
theorem picks (h : Fin 16) (r : Fin 2048) :
    (res_main_indices V0 : S1x16x2048.Idx → BitVec 32) (ix3 0 h r) = BitVec.ofNat 32 (pick V0 h r).val :=
  topK_positions (res_main_v47 V0) _ _ h r

/-- The picks as the gather reads them: none is negative, so none is moved. -/
theorem gatherRows (h : Fin 16) (r : Fin 2048) :
    (res_main_call1_v5 V0 : S16x2048x1.Idx → BitVec 32) (ix3 h r 0) = BitVec.ofNat 32 (pick V0 h r).val := by
  have hlt := (pick V0 h r).isLt
  unfold res_main_call1_v5 res_main_v53
  pointwise
  rw [picks]
  exact Routing.wrap_of_lt _ _ (by rw [BitVec.toNat_ofNat]; omega)

/-- The gather of the picked queries, for start words that name positions: head `h`, row `r` is the row the word names. -/
theorem gatherAt (x : S1x16x2048x64.Idx → EReal) (idx : S16x2048x1.Idx → BitVec 32) (h : Fin 16) (r k : Fin 2048) (d : Fin 64)
    (hk : idx (ix3 h r 0) = BitVec.ofNat 32 k.val) :
    Host.gather gather_S1x16x2048x64_S16x2048x1_S1x16x2048x64_03_2_1_0_2_2_11164 x idx (ix4 0 h r d) = x (ix4 0 h k d) := by
  unfold Host.gather
  have hsi : ∀ p, gather_S1x16x2048x64_S16x2048x1_S1x16x2048x64_03_2_1_0_2_2_11164.siIdx (ix4 0 h r d) ⟨0, p⟩ = (ix3 h r 0 : S16x2048x1.Idx) := by
    intro p
    funext a
    match a with
    | ⟨0, _⟩ => rfl
    | ⟨1, _⟩ => rfl
    | ⟨2, _⟩ => rfl
  have hst : gather_S1x16x2048x64_S16x2048x1_S1x16x2048x64_03_2_1_0_2_2_11164.start (ix4 0 h r d) idx 2 = k.val := by
    unfold GatherDims.start
    rw [dif_pos (by decide)]
    have e : idx (gather_S1x16x2048x64_S16x2048x1_S1x16x2048x64_03_2_1_0_2_2_11164.siIdx (ix4 0 h r d) ⟨0, by decide⟩) = BitVec.ofNat 32 k.val := by
      rw [hsi, hk]
    have e' : (BitVec.ofNat 32 k.val).toInt.toNat = k.val := by
      rw [BitVec.toInt_eq_toNat_of_lt (by rw [BitVec.toNat_ofNat]; omega), BitVec.toNat_ofNat]; omega
    refine (congrArg (fun w : BitVec 32 => min w.toInt.toNat 2047) e).trans ?_
    show min (BitVec.ofNat 32 k.val).toInt.toNat 2047 = k.val
    rw [e']; omega
  congr 1
  funext a
  apply Fin.ext
  match a with
  | ⟨0, _⟩ => rfl
  | ⟨1, _⟩ => exact (Nat.zero_add _).trans rfl
  | ⟨2, _⟩ =>
    show gather_S1x16x2048x64_S16x2048x1_S1x16x2048x64_03_2_1_0_2_2_11164.start (ix4 0 h r d) idx 2 + 0 + 0 = k.val
    rw [hst]; rfl
  | ⟨3, _⟩ => exact (Nat.zero_add _).trans rfl

/-- A query's scores against the keys, from the gathered rows and a mask that lets every row through. -/
theorem scoresOf (mask : S16x2048.Idx → BitVec 1) (g k : FVec Ideal S1x16x2048x64 .f32) (h : Fin 16) (r m : Fin 2048)
    (hm : mask (ix2 h r) = 1#1) :
    (Host.divf (Host.dotGeneral dot_S1x16x2048x64_S1x16x2048x64_S1x16x2048x2048_3_3_2_2_01_01 none
      (select (broadcastInDim S1x16x2048x64 ![1, 2] bcast_S16x2048_S1x16x2048x64_1_2 mask) g
        (broadcastInDim S1x16x2048x64 ![] bcast_S_S1x16x2048x64 (constant S_ .f32 0x7FC00000#32))) k)
      (broadcastInDim S1x16x2048x2048 ![] bcast_S_S1x16x2048x2048 (constant (F := Ideal) S_ .f32 0x41000000#32)) :
        S1x16x2048x2048.Idx → EReal) (ix4 0 h r m)
      = Ideal.div (∑ d : Fin 64, g (ix4 0 h r d) * k (ix4 0 h m d)) 8 := by
  have e8 : (Ideal.ofBits FTy.f32 1090519040#32 : EReal) = 8 := by
    simp [Ideal.ofBits, Ideal.ieee, -EReal.coe_mul]; norm_num
    rfl
  pointwise
  rw [e8]
  simp only [hm]
  rfl

/-- The scores of the `r`-th picked query of head `h`. -/
theorem scores (h : Fin 16) (r m : Fin 2048) :
    (res_main_v57 V0 : S1x16x2048x2048.Idx → EReal) (ix4 0 h r m)
      = score (fun l d => proj (V0 (Proc.devRef .tc main_arg0)) (V0 (Proc.devRef .tc main_arg3)) (V0 (Proc.devRef .tc main_arg4)) h l d)
          (fun l d => proj (V0 (Proc.devRef .tc main_arg1)) (V0 (Proc.devRef .tc main_arg5)) (V0 (Proc.devRef .tc main_arg6)) h l d)
          (pick V0 h r) m := by
  refine (scoresOf _ _ _ h r m ?_).trans ?_
  · refine Host.reduce_andi_one _ _ _ _ _ rfl ?_
    intro i
    obtain ⟨h', r', z, rfl⟩ : ∃ (h' : Fin 16) (r' : Fin 2048) (z : Fin 1), i = ix3 h' r' z := ⟨_, _, _, eq_ix3 i⟩
    obtain rfl : z = 0 := Subsingleton.elim _ _
    have hlt := (pick V0 h' r').isLt
    pointwise
    rw [gatherRows]
    have e : (BitVec.ofNat 32 (pick V0 h' r').val).toInt = ((pick V0 h' r').val : Int) := by
      rw [BitVec.toInt_eq_toNat_of_lt (by rw [BitVec.toNat_ofNat]; omega), BitVec.toNat_ofNat]; omega
    rw [IntOp.cmpi_sge.2 (by rw [e]; exact Int.natCast_nonneg _), IntOp.cmpi_sle.2 (by rw [e]; show _ ≤ (2047 : Int); omega)]
    rfl
  · unfold score
    congr 1
    refine Finset.sum_congr rfl fun d _ => ?_
    rw [gatherAt _ _ h r (pick V0 h r) d (gatherRows V0 h r), queries, keys]

/-- The maximum over the last axis of a rank-4 array. -/
theorem rowMax {a b c e : Nat} {u : Shape} (x : (⟨4, ![a, b, c, e]⟩ : Shape).Idx → EReal) (init : u.Idx → EReal)
    (hr : (⟨4, ![a, b, c, e]⟩ : Shape).ReducesTo [3] (⟨3, ![a, b, c]⟩ : Shape)) (hu : 0 < u.numel) (i : Fin a) (j : Fin b) (k : Fin c) :
    Host.reduce (FloatOps.maximumf (F := Ideal) (φ := .f32)) x init hr hu (ix3 i j k)
      = (Finset.univ : Finset (Fin e)).fold max (init (Shape.Idx.first hu)) (fun n => x (ix4 i j k n)) := by
  pointwise

/-- A query's weights, from its scores and their row maxima. -/
theorem weightsOf (x : FVec Ideal S1x16x2048x2048 .f32) (R : FVec Ideal S1x16x2048 .f32) (h : Fin 16) (r m : Fin 2048)
    (hR : R (ix3 0 h r) = (Finset.univ : Finset (Fin 2048)).fold max ⊥ (fun n => x (ix4 0 h r n))) :
    (Host.exp (subf x (broadcastInDim S1x16x2048x2048 ![0, 1, 2, 3] bcast_S1x16x2048x1_S1x16x2048x2048_0_1_2_3
      (broadcastInDim S1x16x2048x1 ![0, 1, 2] bcast_S1x16x2048_S1x16x2048x1_0_1_2
        (maximumf (broadcastInDim S1x16x2048 ![] bcast_S_S1x16x2048 (constant (F := Ideal) S_ .f32 0xFF800000#32)) R)))) :
        S1x16x2048x2048.Idx → EReal) (ix4 0 h r m)
      = weight (fun n => x (ix4 0 h r n)) m := by
  unfold weight top
  pointwise
  rw [hR]
  have : (Ideal.ofBits FTy.f32 4286578688#32 : EReal) = ⊥ := by simp [Ideal.ofBits, Ideal.ieee]
  rw [this]

/-- The weights of a picked query, from its scores. -/
theorem weights (h : Fin 16) (r m : Fin 2048) :
    (res_main_v64 V0 : S1x16x2048x2048.Idx → EReal) (ix4 0 h r m)
      = weight (fun n => (res_main_v57 V0 : S1x16x2048x2048.Idx → EReal) (ix4 0 h r n)) m := by
  refine weightsOf (res_main_v57 V0) _ h r m ?_
  refine (rowMax _ _ _ _ 0 h r).trans ?_
  have : (constant (F := Ideal) S_ .f32 0xFF800000#32) (Shape.Idx.first h_S_) = (⊥ : EReal) := by
    show Ideal.ofBits FTy.f32 4286578688#32 = ⊥
    simp [Ideal.ofBits, Ideal.ieee]
  rw [this]

end Cert.ReferenceIdeal.Read

end
-- ==== Proof.RefScatter.lean ====
/-
  The reference's scatter, read at an element: it sets every row of the context, each at the position its top-k place names.
-/
module

public import proofs.«01_k».proof.Proof.RefParts
public import Idealize.ShloMosaic.Lib.Routing.OpsSet

@[expose] public section

set_option maxRecDepth 16384

noncomputable section

namespace Cert.ReferenceIdeal.Read

open Idealize.ShloMosaic Cert.ReferenceIdeal Cert.ReferenceIdeal.Value Cert.Attention
open Cert.ReferenceIdeal.Facts Cert.ReferenceIdeal.Facts₀
open scoped BigOperators

/-- A small natural number's word reads back as itself. -/
theorem toInt_small (n : Nat) (hn : n < 2048) : (BitVec.ofNat 32 n).toInt = (n : Int) := by
  rw [BitVec.toInt_eq_toNat_of_lt (by rw [BitVec.toNat_ofNat]; omega), BitVec.toNat_ofNat]; omega

/-- Where an update row lands, for index words that name (0, head, position). -/
theorem lands (idx : S1x16x2048x3.Idx → BitVec 32) (p : Fin 16 → Fin 2048 → Fin 2048)
    (h0 : ∀ h r, idx (ix4 0 h r 0) = 0#32) (h1 : ∀ h r, idx (ix4 0 h r 1) = BitVec.ofNat 32 h.val)
    (h2 : ∀ h r, idx (ix4 0 h r 2) = BitVec.ofNat 32 (p h r).val) (h h' : Fin 16) (r l : Fin 2048) (d d' : Fin 64) :
    scatter_S1x16x2048x64_S1x16x2048x3_S1x16x2048x64_3_012_012_3.resultIdx? (ix4 0 h r d) idx = some (ix4 0 h' l d')
      ↔ h = h' ∧ p h r = l ∧ d = d' := by
  have hsi : ∀ (c : Fin 3) (pc : c.val < scatter_S1x16x2048x64_S1x16x2048x3_S1x16x2048x64_3_012_012_3.scatterDimsToOperandDims.length),
      scatter_S1x16x2048x64_S1x16x2048x3_S1x16x2048x64_3_012_012_3.siIdx (ix4 0 h r d) ⟨c.val, pc⟩ = (ix4 0 h r c : S1x16x2048x3.Idx) := by
    intro c pc
    funext a
    match a with
    | ⟨0, _⟩ => rfl
    | ⟨1, _⟩ => rfl
    | ⟨2, _⟩ => rfl
    | ⟨3, _⟩ => rfl
  have s0 : scatter_S1x16x2048x64_S1x16x2048x3_S1x16x2048x64_3_012_012_3.start (ix4 0 h r d) idx 0 = 0 := by
    unfold ScatterDims.start
    rw [dif_pos (by decide)]
    exact (congrArg (fun i => (idx i).toInt) (hsi 0 (by decide))).trans (by rw [h0]; rfl)
  have s1 : scatter_S1x16x2048x64_S1x16x2048x3_S1x16x2048x64_3_012_012_3.start (ix4 0 h r d) idx 1 = (h.val : Int) := by
    unfold ScatterDims.start
    rw [dif_pos (by decide)]
    exact (congrArg (fun i => (idx i).toInt) (hsi 1 (by decide))).trans (by rw [h1]; exact toInt_small _ (by omega))
  have s2 : scatter_S1x16x2048x64_S1x16x2048x3_S1x16x2048x64_3_012_012_3.start (ix4 0 h r d) idx 2 = ((p h r).val : Int) := by
    unfold ScatterDims.start
    rw [dif_pos (by decide)]
    exact (congrArg (fun i => (idx i).toInt) (hsi 2 (by decide))).trans (by rw [h2]; exact toInt_small _ (p h r).isLt)
  have s3 : scatter_S1x16x2048x64_S1x16x2048x3_S1x16x2048x64_3_012_012_3.start (ix4 0 h r d) idx 3 = 0 := by
    unfold ScatterDims.start
    rw [dif_neg (by decide)]
  rw [Routing.resultIdx?_eq_some]
  constructor
  · intro q
    have q1 := q 1
    have q2 := q 2
    have q3 := q 3
    rw [s1] at q1
    rw [s2] at q2
    rw [s3] at q3
    change (h.val : Int) + ((0 : Nat) : Int) = (h'.val : Int) at q1
    change ((p h r).val : Int) + ((0 : Nat) : Int) = (l.val : Int) at q2
    change (0 : Int) + (d.val : Int) = (d'.val : Int) at q3
    exact ⟨Fin.ext (by omega), Fin.ext (by omega), Fin.ext (by omega)⟩
  · rintro ⟨rfl, rfl, rfl⟩ a
    match a with
    | ⟨0, _⟩ => exact (congrArg (· + ((0 : Nat) : Int)) s0).trans rfl
    | ⟨1, _⟩ => exact (congrArg (· + ((0 : Nat) : Int)) s1).trans (Int.add_zero _)
    | ⟨2, _⟩ => exact (congrArg (· + ((0 : Nat) : Int)) s2).trans (Int.add_zero _)
    | ⟨3, _⟩ => exact (congrArg (· + (d.val : Int)) s3).trans (Int.zero_add _)

/-- The scatter at the position place `r` names: update row `r`, whatever was there. -/
theorem scatterAt (x0 upd : S1x16x2048x64.Idx → EReal) (idx : S1x16x2048x3.Idx → BitVec 32) (p : Fin 16 → Fin 2048 → Fin 2048)
    (hp : ∀ h, Function.Injective (p h))
    (h0 : ∀ h r, idx (ix4 0 h r 0) = 0#32) (h1 : ∀ h r, idx (ix4 0 h r 1) = BitVec.ofNat 32 h.val)
    (h2 : ∀ h r, idx (ix4 0 h r 2) = BitVec.ofNat 32 (p h r).val) (h : Fin 16) (r : Fin 2048) (d : Fin 64) :
    Host.scatter scatter_S1x16x2048x64_S1x16x2048x3_S1x16x2048x64_3_012_012_3 (fun _ b => b) x0 idx upd (ix4 0 h (p h r) d)
      = upd (ix4 0 h r d) := by
  refine Routing.scatter_set_hit _ x0 idx upd _ _ ?_ (ix4 0 h r d) ((lands idx p h0 h1 h2 h h r _ d d).2 ⟨rfl, rfl, rfl⟩)
  intro k hk
  obtain ⟨z, h', r', d', rfl⟩ : ∃ (z : Fin 1) (h' : Fin 16) (r' : Fin 2048) (d' : Fin 64), k = ix4 z h' r' d' := ⟨_, _, _, _, eq_ix4 k⟩
  obtain rfl : z = 0 := Subsingleton.elim _ _
  obtain ⟨rfl, e, rfl⟩ := (lands idx p h0 h1 h2 h' h r' _ d' d).1 hk
  rw [hp _ e]

end Cert.ReferenceIdeal.Read

end
-- ==== Proof.RefOut.lean ====
/-
  The reference's result at an element: every position's heads are the softmax attention of that position, whatever order the
  top-k put the positions in, and the result is their output projection.
-/
module

public import proofs.«01_k».proof.Proof.RefScatter

@[expose] public section

set_option maxRecDepth 16384

noncomputable section

namespace Cert.ReferenceIdeal.Read

open Idealize.ShloMosaic Cert.ReferenceIdeal Cert.ReferenceIdeal.Value Cert.Attention
open Cert.ReferenceIdeal.Facts Cert.ReferenceIdeal.Facts₀
open scoped BigOperators

/-- The sum over the last axis of a rank-4 array, from zero. -/
theorem rowSum {a b c e : Nat} {u : Shape} (x : (⟨4, ![a, b, c, e]⟩ : Shape).Idx → EReal) (init : FVec Ideal u .f32)
    (hr : (⟨4, ![a, b, c, e]⟩ : Shape).ReducesTo [3] (⟨3, ![a, b, c]⟩ : Shape)) (hu : 0 < u.numel)
    (hi : init (Shape.Idx.first hu) = (0 : EReal)) (i : Fin a) (j : Fin b) (k : Fin c) :
    (Host.reduceAdd (F := Ideal) (φ := .f32) x init hr hu : (⟨3, ![a, b, c]⟩ : Shape).Idx → EReal) (ix3 i j k)
      = ∑ n : Fin e, x (ix4 i j k n) := by
  pointwise
  rw [hi, zero_add]

/-- A row of the updates: the normalised weights times the values. -/
theorem attendOf (w : FVec Ideal S1x16x2048x2048 .f32) (S : FVec Ideal S1x16x2048 .f32) (v : FVec Ideal S1x16x2048x64 .f32)
    (h : Fin 16) (r : Fin 2048) (d : Fin 64) (hS : S (ix3 0 h r) = ∑ n : Fin 2048, w (ix4 0 h r n)) :
    (Host.dotGeneral dot_S1x16x2048x2048_S1x16x2048x64_S1x16x2048x64_3_2_2_3_01_01 none
      (Host.divf w (broadcastInDim S1x16x2048x2048 ![0, 1, 2, 3] bcast_S1x16x2048x1_S1x16x2048x2048_0_1_2_3
        (broadcastInDim S1x16x2048x1 ![0, 1, 2] bcast_S1x16x2048_S1x16x2048x1_0_1_2 S))) v : S1x16x2048x64.Idx → EReal) (ix4 0 h r d)
      = ∑ m : Fin 2048, Ideal.div (w (ix4 0 h r m)) (∑ n : Fin 2048, w (ix4 0 h r n)) * v (ix4 0 h m d) := by
  pointwise
  rw [hS]

/-- The result from the context: the heads side by side, times the output weights, plus the bias. -/
theorem outOf (ctx : FVec Ideal S1x16x2048x64 .f32) (W : FVec Ideal S1024x1024 .f32) (b : FVec Ideal S1024 .f32) (l : Fin 2048) (j : Fin 1024) :
    (addf (Host.dotGeneral dot_S1x2048x1024_S1024x1024_S1x2048x1024_2_0_01_1_n_n none
      (shapeCast _ (transpose S1x2048x16x64 [0, 2, 1, 3] ctx transposes_S1x16x2048x64_S1x2048x16x64_0_2_1_3) shapeCasts_S1x2048x16x64_S1x2048x1024)
      (transpose S1024x1024 [1, 0] W transposes_S1024x1024_S1024x1024_1_0))
      (broadcastInDim S1x2048x1024 ![0, 1, 2] bcast_S1x1x1024_S1x2048x1024_0_1_2 (broadcastInDim S1x1x1024 ![2] bcast_S1024_S1x1x1024_2 b)) :
        S1x2048x1024.Idx → EReal) (ix3 0 l j)
      = outProj (fun h d => ctx (ix4 0 h l d)) W b j := by
  unfold outProj
  pointwise
  rfl

/-- The scatter's index words, from the head words and the position words. -/
theorem wordsOf (v71 : S1x1x1.Idx → BitVec 32) (v73 : S1x16x1.Idx → BitVec 32) (ind : S1x16x2048.Idx → BitVec 32)
    (p : Fin 16 → Fin 2048 → Fin 2048) (h71 : v71 (ix3 0 0 0) = 0#32) (h73 : ∀ h : Fin 16, v73 (ix3 0 h 0) = BitVec.ofNat 32 h.val)
    (hind : ∀ h r, ind (ix3 0 h r) = BitVec.ofNat 32 (p h r).val) (h : Fin 16) (r : Fin 2048) (c : Fin 3) :
    (concatenate S1x16x2048x3 3 [⟨S1x16x2048x1, ((broadcastInDim S1x16x2048x1 ![0, 1, 2] bcast_S1x16x2048_S1x16x2048x1_0_1_2 (broadcastInDim S1x16x2048 ![0, 1, 2] bcast_S1x1x1_S1x16x2048_0_1_2 (select (cmpi .slt v71 (broadcastInDim S1x1x1 ![] bcast_S_S1x1x1 (constantI S_ 32 0#32))) (addi v71 (broadcastInDim S1x1x1 ![] bcast_S_S1x1x1 (constantI S_ 32 1#32))) v71))) : S1x16x2048x1.Idx → BitVec 32)⟩,
      ⟨S1x16x2048x1, ((broadcastInDim S1x16x2048x1 ![0, 1, 2] bcast_S1x16x2048_S1x16x2048x1_0_1_2 (broadcastInDim S1x16x2048 ![0, 1, 2] bcast_S1x16x1_S1x16x2048_0_1_2 (select (cmpi .slt v73 (broadcastInDim S1x16x1 ![] bcast_S_S1x16x1 (constantI S_ 32 0#32))) (addi v73 (broadcastInDim S1x16x1 ![] bcast_S_S1x16x1 (constantI S_ 32 16#32))) v73))) : S1x16x2048x1.Idx → BitVec 32)⟩,
      ⟨S1x16x2048x1, ((broadcastInDim S1x16x2048x1 ![0, 1, 2] bcast_S1x16x2048_S1x16x2048x1_0_1_2 (select (cmpi .slt ind (broadcastInDim S1x16x2048 ![] bcast_S_S1x16x2048 (constantI S_ 32 0#32))) (addi ind (broadcastInDim S1x16x2048 ![] bcast_S_S1x16x2048 (constantI S_ 32 2048#32))) ind)) : S1x16x2048x1.Idx → BitVec 32)⟩]
      concatenates_S1x16x2048x1_S1x16x2048x1_S1x16x2048x1_S1x16x2048x3_d3 : S1x16x2048x3.Idx → BitVec 32) (ix4 0 h r c)
      = ![0#32, BitVec.ofNat 32 h.val, BitVec.ofNat 32 (p h r).val] c := by
  fin_cases c
  · pointwise
    rw [h71]
    rfl
  · pointwise
    rw [h73]
    exact Routing.wrap_of_lt _ _ (by rw [BitVec.toNat_ofNat]; omega)
  · pointwise
    rw [hind]
    exact Routing.wrap_of_lt _ _ (by rw [BitVec.toNat_ofNat]; have := (p h r).isLt; omega)

variable (V0 : Valuation τ sig (Elt Ideal))

/-- The values, by head, as the reference holds them in a row of updates: the attention of the picked position. -/
theorem updates (h : Fin 16) (r : Fin 2048) (d : Fin 64) (w : FVec Ideal S1x16x2048x2048 .f32) (hw : w = res_main_v64 V0)
    (v : FVec Ideal S1x16x2048x64 .f32) (hv' : v = res_main_v20 V0)
    (S : FVec Ideal S1x16x2048 .f32) (hS : S (ix3 0 h r) = ∑ n : Fin 2048, w (ix4 0 h r n)) :
    (Host.dotGeneral dot_S1x16x2048x2048_S1x16x2048x64_S1x16x2048x64_3_2_2_3_01_01 none
      (Host.divf w (broadcastInDim S1x16x2048x2048 ![0, 1, 2, 3] bcast_S1x16x2048x1_S1x16x2048x2048_0_1_2_3
        (broadcastInDim S1x16x2048x1 ![0, 1, 2] bcast_S1x16x2048_S1x16x2048x1_0_1_2 S))) v : S1x16x2048x64.Idx → EReal) (ix4 0 h r d)
      = attend (score (fun l d => proj (V0 (Proc.devRef .tc main_arg0)) (V0 (Proc.devRef .tc main_arg3)) (V0 (Proc.devRef .tc main_arg4)) h l d)
          (fun l d => proj (V0 (Proc.devRef .tc main_arg1)) (V0 (Proc.devRef .tc main_arg5)) (V0 (Proc.devRef .tc main_arg6)) h l d)
          (pick V0 h r))
        (fun m => proj (V0 (Proc.devRef .tc main_arg2)) (V0 (Proc.devRef .tc main_arg7)) (V0 (Proc.devRef .tc main_arg8)) h m d) := by
  refine (attendOf w S v h r d hS).trans ?_
  have hv : ∀ m, w (ix4 0 h r m) = weight (score (fun l d => proj (V0 (Proc.devRef .tc main_arg0)) (V0 (Proc.devRef .tc main_arg3)) (V0 (Proc.devRef .tc main_arg4)) h l d)
          (fun l d => proj (V0 (Proc.devRef .tc main_arg1)) (V0 (Proc.devRef .tc main_arg5)) (V0 (Proc.devRef .tc main_arg6)) h l d)
          (pick V0 h r)) m := by
    intro m
    rw [hw]
    refine (weights V0 h r m).trans ?_
    congr 1
    funext n
    exact scores V0 h r n
  unfold attend
  refine Finset.sum_congr rfl fun m _ => ?_
  rw [hv', values, hv]
  congr 2
  exact Finset.sum_congr rfl fun n _ => hv n

set_option maxHeartbeats 1000000 in
/-- The reference's result: the output projection of every position's softmax attention. -/
theorem output (l : Fin 2048) (j : Fin 1024) :
    (val3 V0 (Proc.devRef .tc main_v102) : S1x2048x1024.Idx → EReal) (ix3 0 l j)
      = outProj (fun h d => attend (score
          (fun l d => proj (V0 (Proc.devRef .tc main_arg0)) (V0 (Proc.devRef .tc main_arg3)) (V0 (Proc.devRef .tc main_arg4)) h l d)
          (fun l d => proj (V0 (Proc.devRef .tc main_arg1)) (V0 (Proc.devRef .tc main_arg5)) (V0 (Proc.devRef .tc main_arg6)) h l d) l)
          (fun m => proj (V0 (Proc.devRef .tc main_arg2)) (V0 (Proc.devRef .tc main_arg7)) (V0 (Proc.devRef .tc main_arg8)) h m d))
        (V0 (Proc.devRef .tc main_arg9)) (V0 (Proc.devRef .tc main_arg10)) j := by
  refine (congrFun (val3_main_v102 V0) (ix3 0 l j)).trans ?_
  refine (outOf _ _ _ l j).trans ?_
  refine congrArg (fun c => outProj c (V0 (Proc.devRef .tc main_arg9)) (V0 (Proc.devRef .tc main_arg10)) j) ?_
  funext h d
  obtain ⟨r, hr⟩ := pick_surjective V0 h l
  subst hr
  have hw := wordsOf (res_main_v71 V0) (res_main_v73 V0) (res_main_indices V0) (fun h r => pick V0 h r) rfl (fun _ => rfl) (picks V0)
  refine (scatterAt _ _ _ (fun h r => pick V0 h r) (fun h => pick_injective V0 h) (fun h r => hw h r 0) (fun h r => hw h r 1) (fun h r => hw h r 2) h r d).trans ?_
  refine updates V0 h r d (res_main_v64 V0) rfl (res_main_v20 V0) rfl _ ?_
  exact rowSum _ _ _ _ (by show Ideal.ofBits FTy.f32 0#32 = 0; simp [Ideal.ofBits, Ideal.ieee]) 0 h r

end Cert.ReferenceIdeal.Read

end
-- ==== Proof.Entry.lean ====
/-
  What the host operations around the launches write, read at an index.
-/
module

public import proofs.«01_k».proof.Proof.Spec
public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Read

open Idealize.ShloMosaic Idealize.ShloMosaic.TcCoe Cert.KernelIdeal Cert.KernelIdeal.Gen Cert.Attention

variable (V0 : Valuation τ sig (Elt Ideal))

/-- An input, its unit axis dropped. -/
theorem rowsCast (x : Vec Ideal S1x2048x1024 .f32) (l : Fin 2048) (j : Fin 1024) :
    (shapeCast S2048x1024 x shapeCasts_S1x2048x1024_S2048x1024 : S2048x1024.Idx → EReal) (ix2 l j) = x (ix3 0 l j) := by
  pointwise

/-- A weight, its rows split into heads. -/
theorem headsCast (x : Vec Ideal S1024x1024 .f32) (h : Fin 16) (d : Fin 64) (j : Fin 1024) :
    (shapeCast S16x64x1024 x shapeCasts_S1024x1024_S16x64x1024 : S16x64x1024.Idx → EReal) (ix3 h d j) = x (ix2 (col h d) j) := by
  pointwise
  rfl

/-- A bias, split into heads. -/
theorem biasCast (x : Vec Ideal S1024 .f32) (h : Fin 16) (d : Fin 64) :
    (shapeCast S16x64x1 x shapeCasts_S1024_S16x64x1 : S16x64x1.Idx → EReal) (ix3 h d 0) = x (ix1 (col h d)) := by
  pointwise
  rfl

/-- The output bias as a row. -/
theorem rowCast (x : Vec Ideal S1024 .f32) (j : Fin 1024) :
    (shapeCast S1x1024 x shapeCasts_S1024_S1x1024 : S1x1024.Idx → EReal) (ix2 0 j) = x (ix1 j) := by
  pointwise

/-- The result with its unit axis. -/
theorem resultCast (x : Vec Ideal S2048x1024 .f32) (l : Fin 2048) (j : Fin 1024) :
    (shapeCast S1x2048x1024 x shapeCasts_S2048x1024_S1x2048x1024 : S1x2048x1024.Idx → EReal) (ix3 0 l j) = x (ix2 l j) := by
  pointwise

/-- The rows of input 0. -/
theorem entry0 (l : Fin 2048) (j : Fin 1024) : (StableHlo.after hostOps0 V0 (Proc.devRef .tc main_v0) : S2048x1024.Idx → EReal) (ix2 l j)
    = (V0 (Proc.devRef .tc main_arg0) : S1x2048x1024.Idx → EReal) (ix3 0 l j) := by
  after_results
  exact rowsCast _ l j

/-- The rows of input 1. -/
theorem entry1 (l : Fin 2048) (j : Fin 1024) : (StableHlo.after hostOps0 V0 (Proc.devRef .tc main_v1) : S2048x1024.Idx → EReal) (ix2 l j)
    = (V0 (Proc.devRef .tc main_arg1) : S1x2048x1024.Idx → EReal) (ix3 0 l j) := by
  after_results
  exact rowsCast _ l j

/-- The rows of input 2. -/
theorem entry2 (l : Fin 2048) (j : Fin 1024) : (StableHlo.after hostOps0 V0 (Proc.devRef .tc main_v2) : S2048x1024.Idx → EReal) (ix2 l j)
    = (V0 (Proc.devRef .tc main_arg2) : S1x2048x1024.Idx → EReal) (ix3 0 l j) := by
  after_results
  exact rowsCast _ l j

/-- The weight of argument 3, by heads. -/
theorem entry4 (h : Fin 16) (d : Fin 64) (j : Fin 1024) : (StableHlo.after hostOps0 V0 (Proc.devRef .tc main_v4) : S16x64x1024.Idx → EReal) (ix3 h d j)
    = (V0 (Proc.devRef .tc main_arg3) : S1024x1024.Idx → EReal) (ix2 (col h d) j) := by
  after_results
  exact headsCast _ h d j

/-- The weight of argument 5, by heads. -/
theorem entry6 (h : Fin 16) (d : Fin 64) (j : Fin 1024) : (StableHlo.after hostOps0 V0 (Proc.devRef .tc main_v6) : S16x64x1024.Idx → EReal) (ix3 h d j)
    = (V0 (Proc.devRef .tc main_arg5) : S1024x1024.Idx → EReal) (ix2 (col h d) j) := by
  after_results
  exact headsCast _ h d j

/-- The weight of argument 7, by heads. -/
theorem entry8 (h : Fin 16) (d : Fin 64) (j : Fin 1024) : (StableHlo.after hostOps0 V0 (Proc.devRef .tc main_v8) : S16x64x1024.Idx → EReal) (ix3 h d j)
    = (V0 (Proc.devRef .tc main_arg7) : S1024x1024.Idx → EReal) (ix2 (col h d) j) := by
  after_results
  exact headsCast _ h d j

/-- The bias of argument 4, by heads. -/
theorem entry9 (h : Fin 16) (d : Fin 64) : (StableHlo.after hostOps0 V0 (Proc.devRef .tc main_v9) : S16x64x1.Idx → EReal) (ix3 h d 0)
    = (V0 (Proc.devRef .tc main_arg4) : S1024.Idx → EReal) (ix1 (col h d)) := by
  after_results
  exact biasCast _ h d

/-- The bias of argument 6, by heads. -/
theorem entry10 (h : Fin 16) (d : Fin 64) : (StableHlo.after hostOps0 V0 (Proc.devRef .tc main_v10) : S16x64x1.Idx → EReal) (ix3 h d 0)
    = (V0 (Proc.devRef .tc main_arg6) : S1024.Idx → EReal) (ix1 (col h d)) := by
  after_results
  exact biasCast _ h d

/-- The bias of argument 8, by heads. -/
theorem entry11 (h : Fin 16) (d : Fin 64) : (StableHlo.after hostOps0 V0 (Proc.devRef .tc main_v11) : S16x64x1.Idx → EReal) (ix3 h d 0)
    = (V0 (Proc.devRef .tc main_arg8) : S1024.Idx → EReal) (ix1 (col h d)) := by
  after_results
  exact biasCast _ h d

/-- The output bias. -/
theorem entry12 (j : Fin 1024) : (StableHlo.after hostOps0 V0 (Proc.devRef .tc main_v12) : S1x1024.Idx → EReal) (ix2 0 j)
    = (V0 (Proc.devRef .tc main_arg10) : S1024.Idx → EReal) (ix1 j) := by
  after_results
  exact rowCast _ j

/-- The output weight. -/
theorem entry15 : (StableHlo.after hostOps2 V0 (Proc.devRef .tc main_v15) : S1024x1024.Idx → EReal) = V0 (Proc.devRef .tc main_arg9) := by
  after_results
  rfl

/-- The result. -/
theorem entry17 (l : Fin 2048) (j : Fin 1024) : (StableHlo.after hostOps3 V0 (Proc.devRef .tc main_v17) : S1x2048x1024.Idx → EReal) (ix3 0 l j)
    = (V0 (Proc.devRef .tc main_v16) : S2048x1024.Idx → EReal) (ix2 l j) := by
  after_results
  exact resultCast _ l j

end Cert.KernelIdeal.Read
-- ==== Proof.Payload.lean ====
/-
  The kernel's blocks, read at an index: a projection block, the rows added below it, an attention block, an output block.
-/
module

public import proofs.«01_k».proof.Proof.Spec
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Read

open Idealize.ShloMosaic Cert.KernelIdeal Cert.KernelIdeal.Gen Cert.Attention
open Cert.KernelIdeal.Facts Cert.KernelIdeal.Facts₀
open scoped BigOperators

/-- The row of ones and the seven rows of zeros. -/
theorem onesRow (h : Fin 16) (e : Fin 8) (m : Fin 512) :
    (k0_pay1 (F := Ideal) : S16x8x512.Idx → EReal) (ix3 h e m) = if e = 0 then 1 else 0 := by
  unfold_payloads
  pointwise
  obtain ⟨e, he⟩ := e
  interval_cases e <;> rfl

/-- A block of keys, unscaled. -/
theorem keyBlock (x : Vec Ideal S512x1024 .f32) (w : Vec Ideal S16x64x1024 .bf16) (b : Vec Ideal S16x64x1 .f32) (h : Fin 16) (d : Fin 64) (m : Fin 512) :
    (k0_pay6 x w b : S16x64x512.Idx → EReal) (ix3 h d m) = (∑ c : Fin 1024, w (ix3 h d c) * x (ix2 m c)) + b (ix3 h d 0) := by
  unfold_payloads
  pointwise

/-- A block of queries, scaled by the named constant. -/
theorem queryBlock (x : Vec Ideal S512x1024 .f32) (w : Vec Ideal S16x64x1024 .bf16) (b : Vec Ideal S16x64x1 .f32) (h : Fin 16) (d : Fin 64) (m : Fin 512) :
    (k0_pay5 x w b : S16x64x512.Idx → EReal) (ix3 h d m)
      = ((∑ c : Fin 1024, w (ix3 h d c) * x (ix2 m c)) + b (ix3 h d 0)) * (((Real.log 2)⁻¹ * 8⁻¹ : ℝ) : EReal) := by
  unfold_payloads
  pointwise
  rw [IdealRules.named_const.ideal_named_scalar κ "log2e_8" _ _ rfl]

/-- The keys with the eight rows below them. -/
theorem keyRows (k : FVec Ideal S16x64x512 .bf16) (h : Fin 16) (e : Fin 72) (m : Fin 512) :
    (k0_pay2 k : S16x72x512.Idx → EReal) (ix3 h e m)
      = if he : e.val < 64 then k (ix3 h ⟨e.val, he⟩ m) else if e.val = 64 then 1 else 0 := by
  unfold k0_pay2
  pointwise
  split
  · rfl
  · rename_i he
    rw [onesRow]
    congr 1
    rw [Fin.ext_iff]
    show (e.val - 64 = 0) = _
    apply propext
    omega

/-- The values with the eight rows below them. -/
theorem valueRows (x : FVec Ideal S512x1024 .bf16) (w : FVec Ideal S16x64x1024 .bf16) (cst : FVec Ideal S16x64x512 .f32) (b : Vec Ideal S16x64x1 .f32)
     (h : Fin 16) (e : Fin 72) (m : Fin 512) :
    (k0_pay3 x w cst b : S16x72x512.Idx → EReal) (ix3 h e m)
      = if he : e.val < 64 then (cst (ix3 h ⟨e.val, he⟩ m) + ∑ c : Fin 1024, w (ix3 h ⟨e.val, he⟩ c) * x (ix2 m c)) + b (ix3 h ⟨e.val, he⟩ 0)
        else if e.val = 64 then 1 else 0 := by
  unfold k0_pay3
  pointwise
  split
  · rfl
  · rename_i he
    rw [onesRow]
    congr 1
    rw [Fin.ext_iff]
    show (e.val - 64 = 0) = _
    apply propext
    omega

end Cert.KernelIdeal.Read

end
-- ==== Proof.AttnBlock.lean ====
/-
  The attention kernel's block, read at an index.
-/
module

public import proofs.«01_k».proof.Proof.Payload

@[expose] public section

set_option maxRecDepth 16384

noncomputable section

namespace Cert.KernelIdeal.Read

open Idealize.ShloMosaic Cert.KernelIdeal Cert.KernelIdeal.Gen Cert.Attention
open Cert.KernelIdeal.Facts Cert.KernelIdeal.Facts₀
open scoped BigOperators

/-- The attention block: row `e` of the context of the scaled query at `l`. The keys' and values' blocks are padded. -/
theorem attnBlock (q : Vec Ideal S1x64x2048 .bf16) (k v : Vec Ideal S1x72x2048 .bf16) (kh vh : Fin 2048 → Fin 64 → EReal)
    (hk : ∀ (e : Fin 72) (m : Fin 2048), k (ix3 0 e m) = padded (kh m) 1 e) (hv : ∀ (e : Fin 72) (m : Fin 2048), v (ix3 0 e m) = padded (vh m) 1 e)
    (e : Fin 72) (l : Fin 2048) :
    (k1_pay1 q k v : S1x72x2048.Idx → EReal) (ix3 0 e l) = rawRow (fun d => q (ix3 0 d l)) kh vh e := by
  unfold_payloads
  pointwise
  unfold rawRow rawWeight
  have hb : (Ideal.ofBits FTy.f32 4286578688#32 : EReal) = ⊥ := by simp [Ideal.ofBits, Ideal.ieee]
  have hkd : ∀ (d : Fin 64) (hd : d.val < 72) (m : Fin 2048), k (ix3 0 ⟨d.val, hd⟩ m) = kh m d := by
    intro d hd m
    rw [hk]
    exact dif_pos d.isLt
  refine Finset.sum_congr rfl fun m _ => ?_
  rw [hv]
  refine congrArg (padded (vh m) 1 e * ·) ?_
  show Ideal.exp2 _ = Ideal.exp2 _
  refine congrArg Ideal.exp2 ?_
  refine Finset.sum_congr rfl fun x _ => ?_
  rw [hk]
  refine congrArg (padded (kh m) 1 x * ·) ?_
  unfold padded
  split
  · rfl
  · rename_i hx
    by_cases h64 : x.val = 64
    · rw [dif_pos (by omega), if_pos h64]
      unfold shiftOf
      simp only [hkd, hb]
      rfl
    · rw [dif_neg (by omega), if_neg h64]

/-- The output block: the context's quotients times the output weights, plus the bias. -/
theorem outBlock (x : Vec Ideal S16x72x512 .bf16) (w : Vec Ideal S1024x1024 .bf16) (b : Vec Ideal S1x1024 .f32) (l : Fin 512) (j : Fin 1024) :
    (k2_pay1 x w b : S512x1024.Idx → EReal) (ix2 l j)
      = outProj (fun h d => Ideal.div (x (ix3 h (d.castLE (by omega)) l)) (x (ix3 h 64 l))) w (fun c => b (ix2 0 (c 0))) j := by
  unfold outProj
  unfold_payloads
  pointwise
  rfl

end Cert.KernelIdeal.Read

end
-- ==== Proof.ArrayProj.lean ====
/-
  The arrays that the projection launch leaves: the scaled queries, and the keys and values with their padding rows.
-/
module

public import proofs.«01_k».proof.Proof.AttnBlock
public import proofs.«01_k».proof.Proof.Gen.KernelIdeal.Frame
public import Idealize.ShloMosaic.Lib.Pipeline.ValueKit

@[expose] public section

set_option maxRecDepth 16384

noncomputable section

namespace Cert.KernelIdeal.Read

open Idealize.ShloMosaic Idealize.ShloMosaic.TcCoe Cert.KernelIdeal Cert.KernelIdeal.Gen Cert.Attention
open Cert.KernelIdeal.Facts Cert.KernelIdeal.Facts₀
open scoped BigOperators

/-- A projection of the inputs' rows, laid out as the launch lays it out: head, column, position. -/
def headProj (x : S2048x1024.Idx → EReal) (w : S16x64x1024.Idx → EReal) (b : S16x64x1.Idx → EReal) (h : Fin 16) (d : Fin 64) (m : Fin 2048) : EReal :=
  (∑ c : Fin 1024, w (ix3 h d c) * x (ix2 m c)) + b (ix3 h d 0)

/-- The scaled queries. -/
def queryArray (x : S2048x1024.Idx → EReal) (w : S16x64x1024.Idx → EReal) (b : S16x64x1.Idx → EReal) : S16x64x2048.Idx → EReal :=
  fun i => headProj x w b (i 0) (i 1) (i 2) * (((Real.log 2)⁻¹ * 8⁻¹ : ℝ) : EReal)

/-- A projection with a row of ones and seven rows of zeros below it. -/
def paddedArray (x : S2048x1024.Idx → EReal) (w : S16x64x1024.Idx → EReal) (b : S16x64x1.Idx → EReal) : S16x72x2048.Idx → EReal :=
  fun i => padded (fun d => headProj x w b (i 0) d (i 2)) 1 (i 1)

/-- Where the projection launch's blocks lie: the inputs' in rows, the results' in lanes, the others whole. -/
theorem place0 : ∀ t : Fin cfg0.N, win0_0.index t = ![t.val, 0]
    ∧ win0_1.index t = ![t.val, 0]
    ∧ win0_2.index t = ![t.val, 0]
    ∧ win0_3.index t = ![0, 0, 0]
    ∧ win0_4.index t = ![0, 0, 0]
    ∧ win0_5.index t = ![0, 0, 0]
    ∧ win0_6.index t = ![0, 0, 0]
    ∧ win0_7.index t = ![0, 0, 0]
    ∧ win0_8.index t = ![0, 0, 0]
    ∧ win0_9.index t = ![0, 0, t.val]
    ∧ win0_10.index t = ![0, 0, t.val]
    ∧ win0_11.index t = ![0, 0, t.val] :=
  (by decide +kernel : ∀ t : Fin grid0.N, _)

/-- The values' input block, in the element type the product takes. -/
theorem valueCast (x : Vec Ideal S512x1024 .f32) (l : Fin 512) (j : Fin 1024) : (k0_pay4 x : S512x1024.Idx → EReal) (ix2 l j) = x (ix2 l j) := by
  unfold_payloads
  pointwise

/-- The values' weight, in the element type the product takes. -/
theorem weightCast (x : Vec Ideal S16x64x1024 .bf16) (h : Fin 16) (d : Fin 64) (j : Fin 1024) :
    (k0_pay7 x : S16x64x1024.Idx → EReal) (ix3 h d j) = x (ix3 h d j) := by
  unfold_payloads
  pointwise

/-- The values' product starts from zero. -/
theorem zeroBlock (i : S16x64x512.Idx) : (constant (F := Ideal) S16x64x512 .f32 0x00000000#32 : FVec Ideal S16x64x512 .f32) i = (0 : EReal) := by
  show (Ideal.ofBits FTy.f32 0x00000000#32 : EReal) = 0
  simp [Ideal.ofBits, Ideal.ieee]

/-- Equal factors on the right of one factor. -/
theorem sameLeft (a : EReal) {b b' : EReal} (h : b = b') : a * b = a * b' := congrArg (a * ·) h

variable (V : (c : Dev nD) → (b : Ref sig .tc) → Buf (Elt Ideal) ((c : Thread nD τ).loc b))

/-- The queries' input block at a point holds the array's rows from `512 t` on. -/
theorem block0_0 (c : Dev nD) (t : Fin cfg0.N) (l : Fin 512) (j : Fin 1024) (l' : Fin 2048) (hl : l'.val = t.val * 512 + l.val) :
    (iblk0 V c 0 t : S512x1024.Idx → EReal) (ix2 l j) = (V c main_v0 : S2048x1024.Idx → EReal) (ix2 l' j) := by
  have e0 := (place0 t).1
  blk_ext [iblk0, e0]

/-- The keys' input block at a point holds the array's rows from `512 t` on. -/
theorem block0_1 (c : Dev nD) (t : Fin cfg0.N) (l : Fin 512) (j : Fin 1024) (l' : Fin 2048) (hl : l'.val = t.val * 512 + l.val) :
    (iblk0 V c 1 t : S512x1024.Idx → EReal) (ix2 l j) = (V c main_v1 : S2048x1024.Idx → EReal) (ix2 l' j) := by
  have e0 := (place0 t).2.1
  blk_ext [iblk0, e0]

/-- The values' input block at a point holds the array's rows from `512 t` on. -/
theorem block0_2 (c : Dev nD) (t : Fin cfg0.N) (l : Fin 512) (j : Fin 1024) (l' : Fin 2048) (hl : l'.val = t.val * 512 + l.val) :
    (iblk0 V c 2 t : S512x1024.Idx → EReal) (ix2 l j) = (V c main_v2 : S2048x1024.Idx → EReal) (ix2 l' j) := by
  have e0 := (place0 t).2.2.1
  blk_ext [iblk0, e0]

/-- The block of the queries' weight is the whole of it. -/
theorem block0_3 (c : Dev nD) (t : Fin cfg0.N) : (iblk0 V c 3 t : S16x64x1024.Idx → EReal) = V c main_v4 := by
  have e0 := (place0 t).2.2.2.1
  funext i
  blk_ext [iblk0, e0]

/-- The block of the keys' weight is the whole of it. -/
theorem block0_4 (c : Dev nD) (t : Fin cfg0.N) : (iblk0 V c 4 t : S16x64x1024.Idx → EReal) = V c main_v6 := by
  have e0 := (place0 t).2.2.2.2.1
  funext i
  blk_ext [iblk0, e0]

/-- The block of the values' weight is the whole of it. -/
theorem block0_5 (c : Dev nD) (t : Fin cfg0.N) : (iblk0 V c 5 t : S16x64x1024.Idx → EReal) = V c main_v8 := by
  have e0 := (place0 t).2.2.2.2.2.1
  funext i
  blk_ext [iblk0, e0]

/-- The block of the queries' bias is the whole of it. -/
theorem block0_6 (c : Dev nD) (t : Fin cfg0.N) : (iblk0 V c 6 t : S16x64x1.Idx → EReal) = V c main_v9 := by
  have e0 := (place0 t).2.2.2.2.2.2.1
  funext i
  blk_ext [iblk0, e0]

/-- The block of the keys' bias is the whole of it. -/
theorem block0_7 (c : Dev nD) (t : Fin cfg0.N) : (iblk0 V c 7 t : S16x64x1.Idx → EReal) = V c main_v10 := by
  have e0 := (place0 t).2.2.2.2.2.2.2.1
  funext i
  blk_ext [iblk0, e0]

/-- The block of the values' bias is the whole of it. -/
theorem block0_8 (c : Dev nD) (t : Fin cfg0.N) : (iblk0 V c 8 t : S16x64x1.Idx → EReal) = V c main_v11 := by
  have e0 := (place0 t).2.2.2.2.2.2.2.2.1
  funext i
  blk_ext [iblk0, e0]

/-- What the projection launch leaves in its first result. -/
theorem arrayQuery (c : Dev nD) :
    (dat0 V c).arrAt 9 cfg0.N = queryArray (V c main_v0) (V c main_v4) (V c main_v9) := by
  refine (dat0 V c).arrAt_eq_of_covers 9 _ (by decide +kernel) fun t hf y => ?_
  have e3 := (place0 t).2.2.2.2.2.2.2.2.2.1
  blk_simp
  rw [after0_9]
  unfold out0_9
  have hz : (![0, 0] : Fin 2 → Nat) = fun _ => 0 := by decide
  have hz3 : (![0, 0, 0] : Fin 3 → Nat) = fun _ => 0 := by decide
  rw [View.canon_unit_zero hz3, View.ld_unit_zero hz, View.ld_unit_zero hz3, View.ld_unit_zero hz3]
  obtain ⟨h, e, l, rfl⟩ : ∃ (h : Fin 16) (e : Fin 64) (l : Fin 512), y = ix3 h e l := ⟨_, _, _, eq_ix3 y⟩
  rw [block0_3, block0_6]
  have ht : t.val < 4 := t.isLt.trans_eq (by decide)
  have hi : ((win0_9.blk t).view.emb (ix3 h e l) : S16x64x2048.Idx) = ix3 h e ⟨t.val * 512 + l.val, by omega⟩ := by
    blk_ext [e3]
  refine Eq.trans ?_ (congrArg (queryArray (V c main_v0) (V c main_v4) (V c main_v9)) hi).symm
  have hx : ∀ c' : Fin 1024, (iblk0 V c 0 t : S512x1024.Idx → EReal) (ix2 l c')
      = (V c main_v0 : S2048x1024.Idx → EReal) (ix2 ⟨t.val * 512 + l.val, by omega⟩ c') :=
    fun c' => block0_0 V c t l c' _ rfl
  refine (queryBlock _ _ _ h e l).trans ?_
  refine congrArg (fun s : EReal => (s + (V c main_v9 : S16x64x1.Idx → EReal) (ix3 h e 0)) * (((Real.log 2)⁻¹ * 8⁻¹ : ℝ) : EReal)) ?_
  exact Finset.sum_congr rfl fun c' _ => sameLeft _ (hx c')

/-- What the projection launch leaves in its second result. -/
theorem arrayKey (c : Dev nD) :
    (dat0 V c).arrAt 10 cfg0.N = paddedArray (V c main_v1) (V c main_v6) (V c main_v10) := by
  refine (dat0 V c).arrAt_eq_of_covers 10 _ (by decide +kernel) fun t hf y => ?_
  have e3 := (place0 t).2.2.2.2.2.2.2.2.2.2.1
  blk_simp
  rw [after0_10]
  unfold out0_10
  have hz : (![0, 0] : Fin 2 → Nat) = fun _ => 0 := by decide
  have hz3 : (![0, 0, 0] : Fin 3 → Nat) = fun _ => 0 := by decide
  rw [View.canon_unit_zero hz3, View.ld_unit_zero hz, View.ld_unit_zero hz3, View.ld_unit_zero hz3]
  obtain ⟨h, e, l, rfl⟩ : ∃ (h : Fin 16) (e : Fin 72) (l : Fin 512), y = ix3 h e l := ⟨_, _, _, eq_ix3 y⟩
  rw [block0_4, block0_7]
  have ht : t.val < 4 := t.isLt.trans_eq (by decide)
  have hi : ((win0_10.blk t).view.emb (ix3 h e l) : S16x72x2048.Idx) = ix3 h e ⟨t.val * 512 + l.val, by omega⟩ := by
    blk_ext [e3]
  refine Eq.trans ?_ (congrArg (paddedArray (V c main_v1) (V c main_v6) (V c main_v10)) hi).symm
  have hx : ∀ c' : Fin 1024, (iblk0 V c 1 t : S512x1024.Idx → EReal) (ix2 l c')
      = (V c main_v1 : S2048x1024.Idx → EReal) (ix2 ⟨t.val * 512 + l.val, by omega⟩ c') :=
    fun c' => block0_1 V c t l c' _ rfl
  refine (keyRows _ h e l).trans ?_
  show _ = dite _ _ _
  refine dite_congr rfl (fun (he : e.val < 64) => ?_) fun _ => rfl
  refine (keyBlock _ _ _ h _ l).trans ?_
  refine congrArg (fun s : EReal => s + (V c main_v10 : S16x64x1.Idx → EReal) (ix3 h ⟨e.val, he⟩ 0)) ?_
  exact Finset.sum_congr rfl fun c' _ => sameLeft _ (hx c')

/-- What the projection launch leaves in its third result. -/
theorem arrayValue (c : Dev nD) :
    (dat0 V c).arrAt 11 cfg0.N = paddedArray (V c main_v2) (V c main_v8) (V c main_v11) := by
  refine (dat0 V c).arrAt_eq_of_covers 11 _ (by decide +kernel) fun t hf y => ?_
  have e3 := (place0 t).2.2.2.2.2.2.2.2.2.2.2
  blk_simp
  rw [after0_11]
  unfold out0_11
  have hz : (![0, 0] : Fin 2 → Nat) = fun _ => 0 := by decide
  have hz3 : (![0, 0, 0] : Fin 3 → Nat) = fun _ => 0 := by decide
  rw [View.canon_unit_zero hz3, View.ld_unit_zero hz, View.ld_unit_zero hz3, View.ld_unit_zero hz3]
  obtain ⟨h, e, l, rfl⟩ : ∃ (h : Fin 16) (e : Fin 72) (l : Fin 512), y = ix3 h e l := ⟨_, _, _, eq_ix3 y⟩
  rw [block0_5, block0_8]
  have ht : t.val < 4 := t.isLt.trans_eq (by decide)
  have hi : ((win0_11.blk t).view.emb (ix3 h e l) : S16x72x2048.Idx) = ix3 h e ⟨t.val * 512 + l.val, by omega⟩ := by
    blk_ext [e3]
  refine Eq.trans ?_ (congrArg (paddedArray (V c main_v2) (V c main_v8) (V c main_v11)) hi).symm
  have hx : ∀ c' : Fin 1024, (iblk0 V c 2 t : S512x1024.Idx → EReal) (ix2 l c')
      = (V c main_v2 : S2048x1024.Idx → EReal) (ix2 ⟨t.val * 512 + l.val, by omega⟩ c') :=
    fun c' => block0_2 V c t l c' _ rfl
  refine (valueRows _ _ _ _ h e l).trans ?_
  show _ = dite _ _ _
  refine dite_congr rfl (fun (he : e.val < 64) => ?_) fun _ => rfl
  refine congrArg (fun s : EReal => s + (V c main_v11 : S16x64x1.Idx → EReal) (ix3 h ⟨e.val, he⟩ 0)) ?_
  refine (congrArg (fun s : EReal => s + _) (zeroBlock (ix3 h ⟨e.val, he⟩ l))).trans ?_
  refine (zero_add _).trans ?_
  refine Finset.sum_congr rfl fun c' _ => ?_
  refine (congrArg (fun s : EReal => s * _) (weightCast _ h ⟨e.val, he⟩ c')).trans ?_
  exact sameLeft _ ((valueCast _ l c').trans (hx c'))

end Cert.KernelIdeal.Read
-- ==== Proof.ArrayRaw.lean ====
/-
  The array that the attention launch leaves: each head's context before the division, at every row and position.
-/
module

public import proofs.«01_k».proof.Proof.AttnBlock
public import proofs.«01_k».proof.Proof.Gen.KernelIdeal.Frame
public import Idealize.ShloMosaic.Lib.Pipeline.ValueKit

@[expose] public section

set_option maxRecDepth 16384

noncomputable section

namespace Cert.KernelIdeal.Read

open Idealize.ShloMosaic Idealize.ShloMosaic.TcCoe Cert.KernelIdeal Cert.KernelIdeal.Gen Cert.Attention
open Cert.KernelIdeal.Facts Cert.KernelIdeal.Facts₀
open scoped BigOperators

/-- The raw context: head `h`, row `e` (64 columns of the value, the weights' sum, seven unread rows), position `l`. -/
def rawArray (q : S16x64x2048.Idx → EReal) (kh vh : Fin 16 → Fin 2048 → Fin 64 → EReal) : S16x72x2048.Idx → EReal :=
  fun i => rawRow (fun d => q (ix3 (i 0) d (i 2))) (kh (i 0)) (vh (i 0)) (i 1)

/-- Where the attention launch's blocks lie: a head of each array at a point. -/
theorem place1 : ∀ t : Fin cfg1.N, win1_0.index t = ![t.val, 0, 0] ∧ win1_1.index t = ![t.val, 0, 0] ∧ win1_2.index t = ![t.val, 0, 0]
    ∧ win1_3.index t = ![t.val, 0, 0] :=
  (by decide +kernel : ∀ t : Fin grid1.N, _)

variable (V : (c : Dev nD) → (b : Ref sig .tc) → Buf (Elt Ideal) ((c : Thread nD τ).loc b))

/-- The queries' block at a point is that head of the array. -/
theorem block1_0 (c : Dev nD) (t : Fin cfg1.N) (h : Fin 16) (ht : h.val = t.val) (d : Fin 64) (l : Fin 2048) :
    (iblk1 V c 0 t : S1x64x2048.Idx → EReal) (ix3 0 d l) = (V c main_v13_0 : S16x64x2048.Idx → EReal) (ix3 h d l) := by
  have e0 := (place1 t).1
  blk_ext [iblk1, e0]

/-- The keys' block at a point is that head of the array. -/
theorem block1_1 (c : Dev nD) (t : Fin cfg1.N) (h : Fin 16) (ht : h.val = t.val) (e : Fin 72) (l : Fin 2048) :
    (iblk1 V c 1 t : S1x72x2048.Idx → EReal) (ix3 0 e l) = (V c main_v13_1 : S16x72x2048.Idx → EReal) (ix3 h e l) := by
  have e0 := (place1 t).2.1
  blk_ext [iblk1, e0]

/-- The values' block at a point is that head of the array. -/
theorem block1_2 (c : Dev nD) (t : Fin cfg1.N) (h : Fin 16) (ht : h.val = t.val) (e : Fin 72) (l : Fin 2048) :
    (iblk1 V c 2 t : S1x72x2048.Idx → EReal) (ix3 0 e l) = (V c main_v13_2 : S16x72x2048.Idx → EReal) (ix3 h e l) := by
  have e0 := (place1 t).2.2.1
  blk_ext [iblk1, e0]

/-- What the attention launch leaves, from keys and values that carry the padding rows. -/
theorem arrayRaw (c : Dev nD) (kh vh : Fin 16 → Fin 2048 → Fin 64 → EReal)
    (hk : ∀ h e m, (V c main_v13_1 : S16x72x2048.Idx → EReal) (ix3 h e m) = padded (kh h m) 1 e)
    (hv : ∀ h e m, (V c main_v13_2 : S16x72x2048.Idx → EReal) (ix3 h e m) = padded (vh h m) 1 e) :
    (dat1 V c).arrAt 3 cfg1.N = rawArray (V c main_v13_0) kh vh := by
  refine (dat1 V c).arrAt_eq_of_covers 3 _ (by decide +kernel) fun t hf y => ?_
  have e3 := (place1 t).2.2.2
  blk_simp
  rw [after1_3]
  unfold out1_3
  have hz3 : (![0, 0, 0] : Fin 3 → Nat) = fun _ => 0 := by decide
  rw [View.canon_unit_zero hz3, View.ld_unit_zero hz3, View.ld_unit_zero hz3, View.ld_unit_zero hz3]
  obtain ⟨z, e, l, rfl⟩ : ∃ (z : Fin 1) (e : Fin 72) (l : Fin 2048), y = ix3 z e l := ⟨_, _, _, eq_ix3 y⟩
  obtain rfl : z = 0 := Subsingleton.elim _ _
  have ht : t.val < 16 := t.isLt.trans_eq (by decide)
  refine (attnBlock _ _ _ (kh ⟨t.val, ht⟩) (vh ⟨t.val, ht⟩)
    (fun e m => (block1_1 V c t ⟨t.val, ht⟩ rfl e m).trans (hk _ e m)) (fun e m => (block1_2 V c t ⟨t.val, ht⟩ rfl e m).trans (hv _ e m)) e l).trans ?_
  have hi : ((win1_3.blk t).view.emb (ix3 0 e l) : S16x72x2048.Idx) = ix3 ⟨t.val, ht⟩ e l := by
    blk_ext [e3]
  refine Eq.trans ?_ (congrArg (rawArray (V c main_v13_0) kh vh) hi).symm
  have hq : (fun d : Fin 64 => (iblk1 V c 0 t : S1x64x2048.Idx → EReal) (ix3 0 d l))
      = fun d => (V c main_v13_0 : S16x64x2048.Idx → EReal) (ix3 ⟨t.val, ht⟩ d l) := by
    funext d
    exact block1_0 V c t ⟨t.val, ht⟩ rfl d l
  exact congrArg (fun f => rawRow f _ _ e) hq

end Cert.KernelIdeal.Read
-- ==== Proof.ArrayOut.lean ====
/-
  The array that the last launch leaves: the output projection of the normalised context, at every row and column.
-/
module

public import proofs.«01_k».proof.Proof.AttnBlock
public import proofs.«01_k».proof.Proof.Gen.KernelIdeal.Frame
public import Idealize.ShloMosaic.Lib.Pipeline.ValueKit

@[expose] public section

set_option maxRecDepth 16384

noncomputable section

namespace Cert.KernelIdeal.Read

open Idealize.ShloMosaic Idealize.ShloMosaic.TcCoe Cert.KernelIdeal Cert.KernelIdeal.Gen Cert.Attention
open Cert.KernelIdeal.Facts Cert.KernelIdeal.Facts₀
open scoped BigOperators

/-- Row `l`, column `j` of the result: the context of `l`, divided by the weights' sum in its row 64, projected. -/
def outArray (ctx : S16x72x2048.Idx → EReal) (w : S1024x1024.Idx → EReal) (b : S1x1024.Idx → EReal) : S2048x1024.Idx → EReal :=
  fun i => outProj (fun h d => Ideal.div (ctx (ix3 h (d.castLE (by omega)) (i 0))) (ctx (ix3 h 64 (i 0)))) w (fun c => b (ix2 0 (c 0))) (i 1)

/-- Where the blocks of the last launch lie: the context's in lanes, the result's in rows, the others whole. -/
theorem place2 : ∀ t : Fin cfg2.N, win2_0.index t = ![0, 0, t.val] ∧ win2_1.index t = ![0, 0] ∧ win2_2.index t = ![0, 0]
    ∧ win2_3.index t = ![t.val, 0] :=
  (by decide +kernel : ∀ t : Fin grid2.N, _)

variable (V : (c : Dev nD) → (b : Ref sig .tc) → Buf (Elt Ideal) ((c : Thread nD τ).loc b))

/-- The context's block at a point holds the array's lanes from `512 t` on. -/
theorem block2_0 (c : Dev nD) (t : Fin cfg2.N) (h : Fin 16) (e : Fin 72) (l : Fin 512) (l' : Fin 2048) (hl : l'.val = t.val * 512 + l.val) :
    (iblk2 V c 0 t : S16x72x512.Idx → EReal) (ix3 h e l) = (V c main_v14 : S16x72x2048.Idx → EReal) (ix3 h e l') := by
  have e0 := (place2 t).1
  blk_ext [iblk2, e0]

/-- The weight's block is the weight. -/
theorem block2_1 (c : Dev nD) (t : Fin cfg2.N) : (iblk2 V c 1 t : S1024x1024.Idx → EReal) = V c main_v15 := by
  have e0 := (place2 t).2.1
  funext i
  blk_ext [iblk2, e0]

/-- The bias's block is the bias. -/
theorem block2_2 (c : Dev nD) (t : Fin cfg2.N) : (iblk2 V c 2 t : S1x1024.Idx → EReal) = V c main_v12 := by
  have e0 := (place2 t).2.2.1
  funext i
  blk_ext [iblk2, e0]

/-- What the last launch leaves in its result. -/
theorem arrayOut (c : Dev nD) :
    (dat2 V c).arrAt 3 cfg2.N = outArray (V c main_v14) (V c main_v15) (V c main_v12) := by
  refine (dat2 V c).arrAt_eq_of_covers 3 _ (by decide +kernel) fun t hf y => ?_
  have e3 := (place2 t).2.2.2
  blk_simp
  rw [after2_3]
  unfold out2_3
  have hz : (![0, 0] : Fin 2 → Nat) = fun _ => 0 := by decide
  have hz3 : (![0, 0, 0] : Fin 3 → Nat) = fun _ => 0 := by decide
  rw [View.canon_unit_zero hz, View.ld_unit_zero hz3, View.ld_unit_zero hz, View.ld_unit_zero hz]
  obtain ⟨l, j, rfl⟩ : ∃ (l : Fin 512) (j : Fin 1024), y = ix2 l j := ⟨_, _, eq_ix2 y⟩
  rw [block2_1, block2_2]
  refine (outBlock _ _ _ l j).trans ?_
  have ht : t.val < 4 := t.isLt.trans_eq (by decide)
  have hi : ((win2_3.blk t).view.emb (ix2 l j) : S2048x1024.Idx) = ix2 ⟨t.val * 512 + l.val, by omega⟩ j := by
    blk_ext [e3]
  refine Eq.trans ?_ (congrArg (outArray (V c main_v14) (V c main_v15) (V c main_v12)) hi).symm
  have hc : (fun (h : Fin 16) (d : Fin 64) => Ideal.div ((iblk2 V c 0 t : S16x72x512.Idx → EReal) (ix3 h (d.castLE (by omega)) l))
        ((iblk2 V c 0 t : S16x72x512.Idx → EReal) (ix3 h 64 l)))
      = fun h d => Ideal.div ((V c main_v14 : S16x72x2048.Idx → EReal) (ix3 h (d.castLE (by omega)) ⟨t.val * 512 + l.val, by omega⟩))
        ((V c main_v14 : S16x72x2048.Idx → EReal) (ix3 h 64 ⟨t.val * 512 + l.val, by omega⟩)) := by
    funext h d
    rw [block2_0 V c t h _ l ⟨t.val * 512 + l.val, by omega⟩ rfl, block2_0 V c t h _ l ⟨t.val * 512 + l.val, by omega⟩ rfl]
  exact congrArg (fun f => outProj f _ _ j) hc

end Cert.KernelIdeal.Read
-- ==== Proof.Result.lean ====
/-
  The kernel's result at an element, in the arguments as launched.
-/
module

public import proofs.«01_k».proof.Proof.Entry
public import proofs.«01_k».proof.Proof.ArrayProj
public import proofs.«01_k».proof.Proof.ArrayRaw
public import proofs.«01_k».proof.Proof.ArrayOut

@[expose] public section

set_option maxRecDepth 16384

noncomputable section

namespace Cert.KernelIdeal.Read

open Idealize.ShloMosaic Idealize.ShloMosaic.TcCoe Cert.KernelIdeal Cert.KernelIdeal.Gen Cert.Attention
open scoped BigOperators

/-- A projection laid out by heads is the projection. -/
theorem headProj_eq (x : S2048x1024.Idx → EReal) (w : S16x64x1024.Idx → EReal) (b : S16x64x1.Idx → EReal)
    (X : S1x2048x1024.Idx → EReal) (W : S1024x1024.Idx → EReal) (B : S1024.Idx → EReal)
    (hx : ∀ l j, x (ix2 l j) = X (ix3 0 l j)) (hw : ∀ h d j, w (ix3 h d j) = W (ix2 (col h d) j)) (hb : ∀ h d, b (ix3 h d 0) = B (ix1 (col h d)))
    (h : Fin 16) (d : Fin 64) (m : Fin 2048) : headProj x w b h d m = proj X W B h m d := by
  unfold headProj proj
  rw [hb]
  refine congrArg (· + B (ix1 (col h d))) (Finset.sum_congr rfl fun c _ => ?_)
  rw [hw, hx, mul_comm]

variable (m : (ℓ : Loc nD τ sig) → Buf (Elt Ideal) ℓ) (ρ : Dev nD → PrngReg) (c : Dev nD)

/-- The scaled queries after the first launch. -/
theorem queries (h : Fin 16) (d : Fin 64) (l : Fin 2048) : (V2 m ρ c main_v13_0 : S16x64x2048.Idx → EReal) (ix3 h d l)
    = proj (m ((c : Thread nD τ).loc main_arg0)) (m ((c : Thread nD τ).loc main_arg3)) (m ((c : Thread nD τ).loc main_arg4)) h l d
      * (((Real.log 2)⁻¹ * 8⁻¹ : ℝ) : EReal) := by
  have e : (V2 m ρ c main_v13_0 : S16x64x2048.Idx → EReal) = queryArray (V1 m ρ c main_v0) (V1 m ρ c main_v4) (V1 m ρ c main_v9) :=
    (W2_arr m ρ c 9).trans (arrayQuery (V1 m ρ) c)
  refine (congrFun e _).trans ?_
  exact congrArg (fun s : EReal => s * (((Real.log 2)⁻¹ * 8⁻¹ : ℝ) : EReal))
    (headProj_eq _ _ _ _ _ _ (entry0 (W0 m ρ c)) (entry4 (W0 m ρ c)) (entry9 (W0 m ρ c)) h d l)

/-- The keys with their padding rows after the first launch. -/
theorem keys (h : Fin 16) (e : Fin 72) (l : Fin 2048) : (V2 m ρ c main_v13_1 : S16x72x2048.Idx → EReal) (ix3 h e l)
    = padded (fun d => proj (m ((c : Thread nD τ).loc main_arg1)) (m ((c : Thread nD τ).loc main_arg5)) (m ((c : Thread nD τ).loc main_arg6)) h l d) 1 e := by
  have q : (V2 m ρ c main_v13_1 : S16x72x2048.Idx → EReal) = paddedArray (V1 m ρ c main_v1) (V1 m ρ c main_v6) (V1 m ρ c main_v10) :=
    (W2_arr m ρ c 10).trans (arrayKey (V1 m ρ) c)
  refine (congrFun q _).trans ?_
  exact congrArg (fun f => padded f 1 e) (funext fun d =>
    headProj_eq _ _ _ _ _ _ (entry1 (W0 m ρ c)) (entry6 (W0 m ρ c)) (entry10 (W0 m ρ c)) h d l)

/-- The values with their padding rows after the first launch. -/
theorem values (h : Fin 16) (e : Fin 72) (l : Fin 2048) : (V2 m ρ c main_v13_2 : S16x72x2048.Idx → EReal) (ix3 h e l)
    = padded (fun d => proj (m ((c : Thread nD τ).loc main_arg2)) (m ((c : Thread nD τ).loc main_arg7)) (m ((c : Thread nD τ).loc main_arg8)) h l d) 1 e := by
  have q : (V2 m ρ c main_v13_2 : S16x72x2048.Idx → EReal) = paddedArray (V1 m ρ c main_v2) (V1 m ρ c main_v8) (V1 m ρ c main_v11) :=
    (W2_arr m ρ c 11).trans (arrayValue (V1 m ρ) c)
  refine (congrFun q _).trans ?_
  exact congrArg (fun f => padded f 1 e) (funext fun d =>
    headProj_eq _ _ _ _ _ _ (entry2 (W0 m ρ c)) (entry8 (W0 m ρ c)) (entry11 (W0 m ρ c)) h d l)

/-- The raw context after the second launch, still there when the third starts. -/
theorem rawContext (h : Fin 16) (e : Fin 72) (l : Fin 2048) : (V4 m ρ c main_v14 : S16x72x2048.Idx → EReal) (ix3 h e l)
    = rawRow (fun d => proj (m ((c : Thread nD τ).loc main_arg0)) (m ((c : Thread nD τ).loc main_arg3)) (m ((c : Thread nD τ).loc main_arg4)) h l d
          * (((Real.log 2)⁻¹ * 8⁻¹ : ℝ) : EReal))
        (fun n d => proj (m ((c : Thread nD τ).loc main_arg1)) (m ((c : Thread nD τ).loc main_arg5)) (m ((c : Thread nD τ).loc main_arg6)) h n d)
        (fun n d => proj (m ((c : Thread nD τ).loc main_arg2)) (m ((c : Thread nD τ).loc main_arg7)) (m ((c : Thread nD τ).loc main_arg8)) h n d) e := by
  have q : (V4 m ρ c main_v14 : S16x72x2048.Idx → EReal) = rawArray (V2 m ρ c main_v13_0)
      (fun h n d => proj (m ((c : Thread nD τ).loc main_arg1)) (m ((c : Thread nD τ).loc main_arg5)) (m ((c : Thread nD τ).loc main_arg6)) h n d)
      (fun h n d => proj (m ((c : Thread nD τ).loc main_arg2)) (m ((c : Thread nD τ).loc main_arg7)) (m ((c : Thread nD τ).loc main_arg8)) h n d) :=
    (W4_of m ρ c main_v14 (by decide)).trans ((W3_arr m ρ c 3).trans (arrayRaw (V2 m ρ) c _ _ (keys m ρ c) (values m ρ c)))
  refine (congrFun q _).trans ?_
  exact congrArg (fun f => rawRow f _ _ e) (funext fun d => queries m ρ c h d l)

/-- The output weight when the third launch starts. -/
theorem outWeight : (V4 m ρ c main_v15 : S1024x1024.Idx → EReal) = m ((c : Thread nD τ).loc main_arg9) :=
  (entry15 (W3 m ρ c)).trans (W3_args m ρ c main_arg9 (by decide))

/-- The output bias when the third launch starts. -/
theorem outBias (j : Fin 1024) : (V4 m ρ c main_v12 : S1x1024.Idx → EReal) (ix2 0 j) = (m ((c : Thread nD τ).loc main_arg10) : S1024.Idx → EReal) (ix1 j) := by
  have q : V4 m ρ c main_v12 = W1 m ρ c (Proc.devRef .tc main_v12) :=
    (W4_of m ρ c main_v12 (by decide)).trans ((W3_of m ρ c main_v12 (by decide)).trans (W2_of m ρ c main_v12 (by decide)))
  exact (congrFun q _).trans (entry12 (W0 m ρ c) j)

/-- The result at an element: the raw context divided by its row 64, projected. -/
theorem result (l : Fin 2048) (j : Fin 1024) : (W6 m ρ c (Proc.devRef .tc main_v17) : S1x2048x1024.Idx → EReal) (ix3 0 l j)
    = outProj (fun h d =>
        Ideal.div
          (rawRow (fun d => proj (m ((c : Thread nD τ).loc main_arg0)) (m ((c : Thread nD τ).loc main_arg3)) (m ((c : Thread nD τ).loc main_arg4)) h l d
              * (((Real.log 2)⁻¹ * 8⁻¹ : ℝ) : EReal))
            (fun n d => proj (m ((c : Thread nD τ).loc main_arg1)) (m ((c : Thread nD τ).loc main_arg5)) (m ((c : Thread nD τ).loc main_arg6)) h n d)
            (fun n d => proj (m ((c : Thread nD τ).loc main_arg2)) (m ((c : Thread nD τ).loc main_arg7)) (m ((c : Thread nD τ).loc main_arg8)) h n d)
            (d.castLE (by omega)))
          (rawRow (fun d => proj (m ((c : Thread nD τ).loc main_arg0)) (m ((c : Thread nD τ).loc main_arg3)) (m ((c : Thread nD τ).loc main_arg4)) h l d
              * (((Real.log 2)⁻¹ * 8⁻¹ : ℝ) : EReal))
            (fun n d => proj (m ((c : Thread nD τ).loc main_arg1)) (m ((c : Thread nD τ).loc main_arg5)) (m ((c : Thread nD τ).loc main_arg6)) h n d)
            (fun n d => proj (m ((c : Thread nD τ).loc main_arg2)) (m ((c : Thread nD τ).loc main_arg7)) (m ((c : Thread nD τ).loc main_arg8)) h n d)
            64))
      (m ((c : Thread nD τ).loc main_arg9)) (m ((c : Thread nD τ).loc main_arg10)) j := by
  have q : (W5 m ρ c (Proc.devRef .tc main_v16) : S2048x1024.Idx → EReal) = outArray (V4 m ρ c main_v14) (V4 m ρ c main_v15) (V4 m ρ c main_v12) :=
    (W5_arr m ρ c 3).trans (arrayOut (V4 m ρ) c)
  refine (entry17 (W5 m ρ c) l j).trans ((congrFun q _).trans ?_)
  have hw := outWeight m ρ c
  have hb : (fun i : (⟨1, ![1024]⟩ : Shape).Idx => (V4 m ρ c main_v12 : S1x1024.Idx → EReal) (ix2 0 (i 0))) = m ((c : Thread nD τ).loc main_arg10) := by
    funext i
    obtain ⟨n, rfl⟩ : ∃ n : Fin 1024, i = ix1 n := ⟨_, eq_ix1 i⟩
    exact outBias m ρ c n
  have hc := fun (h : Fin 16) (e : Fin 72) => rawContext m ρ c h e l
  show outProj (fun h d => Ideal.div ((V4 m ρ c main_v14 : S16x72x2048.Idx → EReal) (ix3 h (d.castLE (by omega)) l))
    ((V4 m ρ c main_v14 : S16x72x2048.Idx → EReal) (ix3 h 64 l))) _ _ j = _
  refine (congrArg (fun f => outProj f _ _ j) (funext fun h => funext fun d => congr (congrArg Ideal.div (hc h _)) (hc h 64))).trans ?_
  exact (congrArg (fun W => outProj _ W _ j) hw).trans (congrArg (fun b => outProj _ _ b j) hb)

end Cert.KernelIdeal.Read
-- ==== Proof.Launch.lean ====
/-
  The kernel's run, with what it leaves in its result.
-/
module

public import proofs.«01_k».proof.Proof.Gen.KernelIdeal.Frame

@[expose] public section

set_option maxRecDepth 16384

noncomputable section

namespace Cert.KernelIdeal.Read

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unfolding plain definitions in types
set_option backward.isDefEq.respectTransparency.types false in
/-- The run from any memory with zero counters: the result is the last buffer contents' at `main_v17`, the arguments are as launched. -/
theorem run : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v17 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Read
-- ==== Proof.Finite.lean ====
/-
  What the precondition says: the inputs and weights that the scores are made of hold real numbers.
-/
module

public import proofs.«01_k».proof.Proof.Spec
public import proofs.«01_k».proof.Pre_finite_scores
public import Idealize.ShloMosaic.Lib.Pointwise
public import Idealize.ShloMosaic.Lib.Claim

@[expose] public section

noncomputable section

namespace Cert.Attention

open Idealize.ShloMosaic

/-- The precondition's shapes broadcast a scalar. -/
theorem finiteFacts : Cert.Pre_finite_scores.Facts where
  bcast_S_S1x2048x1024 := by decide
  bcast_S_S1024x1024 := by decide
  bcast_S_S1024 := by decide

/-- An extended real whose absolute value is below infinity is a real number. -/
theorem real_of_abs_lt (x : EReal) (h : max x (-x) < ⊤) : ∃ r : ℝ, (r : EReal) = x := by
  refine ⟨x.toReal, EReal.coe_toReal ?_ ?_⟩
  · rintro rfl; simp at h
  · rintro rfl; simp at h

/-- One element of one mask. -/
theorem real_of_mask {s : Shape} (x : FVec Ideal s .f32) (hb : (⟨0, ![]⟩ : Shape).BroadcastsInDim s ![])
    (i : s.Idx) (h : (cmpf .olt (Host.absf x) (broadcastInDim s ![] hb (constant (F := Ideal) ⟨0, ![]⟩ .f32 0x7F800000#32)) : IVec s 1) i = 1#1) :
    ∃ r : ℝ, (r : EReal) = x i := by
  refine real_of_abs_lt _ ?_
  have hi : (Ideal.ofBits FTy.f32 0x7F800000#32 : EReal) = ⊤ := by simp [Ideal.ofBits, Ideal.ieee]
  revert h
  pointwise
  rw [hi]
  intro h
  by_contra hn
  have h0 : decide (FloatOps.absf (F := Ideal) (φ := .f32) (x i) < (⊤ : EReal)) = false := decide_eq_false hn
  rw [h0] at h
  exact absurd h (by decide)

/-- The precondition at a memory's arguments: six arrays of real numbers. -/
theorem real_of_finite [Cert.Pre_finite_scores.Facts]
    (a0 a1 a2 : FVec Ideal Cert.Pre_finite_scores.S1x2048x1024 .f32) (a3 : FVec Ideal Cert.Pre_finite_scores.S1024x1024 .f32)
    (a4 : FVec Ideal Cert.Pre_finite_scores.S1024 .f32) (a5 : FVec Ideal Cert.Pre_finite_scores.S1024x1024 .f32)
    (a6 : FVec Ideal Cert.Pre_finite_scores.S1024 .f32) (a7 : FVec Ideal Cert.Pre_finite_scores.S1024x1024 .f32)
    (a8 : FVec Ideal Cert.Pre_finite_scores.S1024 .f32) (a9 : FVec Ideal Cert.Pre_finite_scores.S1024x1024 .f32)
    (a10 : FVec Ideal Cert.Pre_finite_scores.S1024 .f32)
    (h : (Cert.Pre_finite_scores.fn (F := Ideal) a0 a1 a2 a3 a4 a5 a6 a7 a8 a9 a10).1 = (fun _ => 1#1)
      ∧ (Cert.Pre_finite_scores.fn (F := Ideal) a0 a1 a2 a3 a4 a5 a6 a7 a8 a9 a10).2.1 = (fun _ => 1#1)
      ∧ (Cert.Pre_finite_scores.fn (F := Ideal) a0 a1 a2 a3 a4 a5 a6 a7 a8 a9 a10).2.2.1 = (fun _ => 1#1)
      ∧ (Cert.Pre_finite_scores.fn (F := Ideal) a0 a1 a2 a3 a4 a5 a6 a7 a8 a9 a10).2.2.2.1 = (fun _ => 1#1)
      ∧ (Cert.Pre_finite_scores.fn (F := Ideal) a0 a1 a2 a3 a4 a5 a6 a7 a8 a9 a10).2.2.2.2.1 = (fun _ => 1#1)
      ∧ (Cert.Pre_finite_scores.fn (F := Ideal) a0 a1 a2 a3 a4 a5 a6 a7 a8 a9 a10).2.2.2.2.2 = (fun _ => 1#1)) :
    (∀ i, ∃ r : ℝ, (r : EReal) = a0 i) ∧ (∀ i, ∃ r : ℝ, (r : EReal) = a1 i) ∧ (∀ i, ∃ r : ℝ, (r : EReal) = a3 i)
      ∧ (∀ i, ∃ r : ℝ, (r : EReal) = a4 i) ∧ (∀ i, ∃ r : ℝ, (r : EReal) = a5 i) ∧ (∀ i, ∃ r : ℝ, (r : EReal) = a6 i) :=
  ⟨fun i => real_of_mask a0 _ i (congrFun h.1 i), fun i => real_of_mask a1 _ i (congrFun h.2.1 i),
    fun i => real_of_mask a3 _ i (congrFun h.2.2.1 i), fun i => real_of_mask a4 _ i (congrFun h.2.2.2.1 i),
    fun i => real_of_mask a5 _ i (congrFun h.2.2.2.2.1 i), fun i => real_of_mask a6 _ i (congrFun h.2.2.2.2.2 i)⟩

end Cert.Attention
-- ==== Proof.Math.lean ====
/-
  The equation of the two softmaxes. The kernel raises 2 to the scaled and shifted scores and divides by the sum of the powers;
  the reference raises e to the scores less their maximum and divides each weight. For real scores the weights differ by one
  positive real factor, which leaves the quotient: over the extended reals a positive real factor distributes over any sum.
-/
module

public import proofs.«01_k».proof.Proof.Spec

@[expose] public section

noncomputable section

namespace Cert.Attention

open Idealize.ShloMosaic
open scoped BigOperators

/-- A sum of reals is a real. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor distributes over a sum. -/
theorem mul_sum_of_nonneg {ι : Type*} (s : Finset ι) (c : ℝ) (hc : 0 ≤ c) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The maximum of finitely many reals, at least one of them, is a real. -/
theorem fold_max_coe {ι : Type*} (s : Finset ι) (hs : s.Nonempty) (f : ι → ℝ) : ∃ M : ℝ, s.fold max ⊥ (fun i => (f i : EReal)) = (M : EReal) := by
  classical
  induction hs using Finset.Nonempty.cons_induction with
  | singleton a => exact ⟨f a, by rw [Finset.fold_singleton]; simp⟩
  | cons a s ha _ ih =>
    obtain ⟨M, hM⟩ := ih
    exact ⟨max (f a) M, by rw [Finset.fold_cons, hM]; exact (EReal.coe_strictMono.monotone.map_max).symm⟩

/-- The product of two padded columns: the inner product and one product more. -/
theorem sum_padded (x y : Fin 64 → EReal) (s : EReal) :
    ∑ e : Fin 72, padded x 1 e * padded y s e = (∑ d : Fin 64, x d * y d) + s := by
  refine (Fin.sum_univ_add (a := 64) (b := 8) (fun e : Fin (64 + 8) => padded x 1 e * padded y s e)).trans ?_
  refine congrArg₂ (· + ·) ?_ ?_
  · refine Finset.sum_congr rfl fun d _ => ?_
    have hd : (Fin.castAdd 8 d).val < 64 := d.isLt
    simp only [padded, dif_pos hd]
    rfl
  · rw [Fin.sum_univ_eight]
    simp [padded]

/-- The shift of a real query against real keys is a real. -/
theorem shiftOf_coe (q : Fin 64 → ℝ) (k : Fin 2048 → Fin 64 → ℝ) :
    ∃ r : ℝ, shiftOf (fun d => (q d : EReal)) (fun m d => (k m d : EReal)) = (r : EReal) := by
  unfold shiftOf
  have hq : ∑ d : Fin 64, (q d : EReal) * (q d : EReal) = ((∑ d, q d * q d : ℝ) : EReal) := by
    rw [← sum_coe]; exact Finset.sum_congr rfl fun d _ => (EReal.coe_mul _ _).symm
  have hk : ∀ m, ∑ d : Fin 64, (k m d : EReal) * (k m d : EReal) = ((∑ d, k m d * k m d : ℝ) : EReal) := by
    intro m; rw [← sum_coe]; exact Finset.sum_congr rfl fun d _ => (EReal.coe_mul _ _).symm
  obtain ⟨M, hM⟩ := fold_max_coe (Finset.univ : Finset (Fin 2048)) Finset.univ_nonempty (fun m => ∑ d, k m d * k m d)
  have hM0 : 0 ≤ M := by
    have h1 : ((∑ d, k 0 d * k 0 d : ℝ) : EReal) ≤ (M : EReal) := by
      rw [← hM, Finset.le_fold_max]
      exact Or.inr ⟨0, Finset.mem_univ _, le_rfl⟩
    exact le_trans (Finset.sum_nonneg fun d _ => mul_self_nonneg _) (EReal.coe_le_coe_iff.1 h1)
  have hs : ¬ (∑ d, q d * q d) < 0 := not_lt.2 (Finset.sum_nonneg fun d _ => mul_self_nonneg _)
  refine ⟨(0 - Real.sqrt (∑ d, q d * q d)) * Real.sqrt M, ?_⟩
  simp only [hq, hk, hM, Ideal.sqrt_coe, if_neg hs, if_neg (not_lt.2 hM0)]
  rw [EReal.coe_mul, EReal.coe_sub, EReal.coe_zero]

/-- The scores of real queries and keys. -/
theorem score_coe (q k : Fin 2048 → Fin 64 → ℝ) (l m : Fin 2048) :
    score (fun l d => (q l d : EReal)) (fun m d => (k m d : EReal)) l m = (((∑ d, q l d * k m d) * 8⁻¹ : ℝ) : EReal) := by
  unfold score
  have h : ∑ d : Fin 64, (q l d : EReal) * (k m d : EReal) = ((∑ d, q l d * k m d : ℝ) : EReal) := by
    rw [← sum_coe]; exact Finset.sum_congr rfl fun d _ => (EReal.coe_mul _ _).symm
  rw [h, show (8 : EReal) = ((8 : ℝ) : EReal) from rfl, Ideal.div_coe (by norm_num), ← EReal.coe_mul, one_div]

/-- The kernel's weights are the reference's, all times one positive real. -/
theorem rawWeight_eq (q k : Fin 2048 → Fin 64 → ℝ) (l : Fin 2048) :
    ∃ (w : Fin 2048 → ℝ) (C : ℝ), 0 < C ∧ (∀ m, 0 < w m)
      ∧ (∀ m, weight (score (fun l d => (q l d : EReal)) (fun m d => (k m d : EReal)) l) m = (w m : EReal))
      ∧ ∀ m, rawWeight (fun d => (q l d : EReal) * (((Real.log 2)⁻¹ * 8⁻¹ : ℝ) : EReal)) (fun m d => (k m d : EReal)) m
          = ((w m * C : ℝ) : EReal) := by
  have hscale : ∀ d, (q l d : EReal) * (((Real.log 2)⁻¹ * 8⁻¹ : ℝ) : EReal) = ((q l d * ((Real.log 2)⁻¹ * 8⁻¹) : ℝ) : EReal) := fun d => (EReal.coe_mul _ _).symm
  obtain ⟨sh, hsh⟩ := shiftOf_coe (fun d => q l d * ((Real.log 2)⁻¹ * 8⁻¹)) k
  obtain ⟨M, hM⟩ := fold_max_coe (Finset.univ : Finset (Fin 2048)) Finset.univ_nonempty (fun m => (∑ d, q l d * k m d) * 8⁻¹)
  have hlog : Real.log 2 ≠ 0 := (Real.log_pos (by norm_num)).ne'
  refine ⟨fun m => Real.exp ((∑ d, q l d * k m d) * 8⁻¹ - M), Real.exp (M + Real.log 2 * sh), Real.exp_pos _, fun m => Real.exp_pos _, fun m => ?_, fun m => ?_⟩
  · unfold weight top
    simp only [score_coe]
    rw [hM, max_eq_right bot_le, ← EReal.coe_sub, Ideal.exp_coe]
  · unfold rawWeight
    simp only [hscale]
    rw [sum_padded, hsh]
    have h : ∑ d : Fin 64, (k m d : EReal) * ((q l d * ((Real.log 2)⁻¹ * 8⁻¹) : ℝ) : EReal)
        = (((∑ d, q l d * k m d) * ((Real.log 2)⁻¹ * 8⁻¹) : ℝ) : EReal) := by
      rw [Finset.sum_mul, ← sum_coe]
      refine Finset.sum_congr rfl fun d _ => ?_
      rw [← EReal.coe_mul]
      refine congrArg Real.toEReal ?_
      ring
    rw [h, ← EReal.coe_add, Ideal.exp2_coe, ← Real.exp_add]
    refine congrArg Real.toEReal ?_
    refine (Real.rpow_def_of_pos (by norm_num : (0 : ℝ) < 2) _).trans ?_
    refine congrArg Real.exp ?_
    generalize ∑ d : Fin 64, q l d * k m d = t
    field_simp
    ring

/-- The equation: the kernel's quotient is the softmax attention, at any values. -/
theorem quotient_eq_attend (q k : Fin 2048 → Fin 64 → ℝ) (v : Fin 2048 → Fin 64 → EReal) (l : Fin 2048) (d : Fin 64) :
    Ideal.div (rawRow (fun d => (q l d : EReal) * (((Real.log 2)⁻¹ * 8⁻¹ : ℝ) : EReal)) (fun m d => (k m d : EReal)) v (d.castLE (by omega)))
        (rawRow (fun d => (q l d : EReal) * (((Real.log 2)⁻¹ * 8⁻¹ : ℝ) : EReal)) (fun m d => (k m d : EReal)) v 64)
      = attend (score (fun l d => (q l d : EReal)) (fun m d => (k m d : EReal)) l) (fun m => v m d) := by
  obtain ⟨w, C, hC, hw, hweight, hraw⟩ := rawWeight_eq q k l
  have hW : 0 < ∑ n, w n := Finset.sum_pos (fun n _ => hw n) Finset.univ_nonempty
  have hd : (Fin.castLE (by omega : 64 ≤ 72) d).val < 64 := d.isLt
  have h1 : rawRow (fun d => (q l d : EReal) * (((Real.log 2)⁻¹ * 8⁻¹ : ℝ) : EReal)) (fun m d => (k m d : EReal)) v (d.castLE (by omega))
      = ∑ m, v m d * ((w m * C : ℝ) : EReal) := by
    unfold rawRow
    refine Finset.sum_congr rfl fun m _ => ?_
    rw [hraw]
    congr 1
    exact dif_pos hd
  have h2 : rawRow (fun d => (q l d : EReal) * (((Real.log 2)⁻¹ * 8⁻¹ : ℝ) : EReal)) (fun m d => (k m d : EReal)) v 64
      = (((∑ n, w n) * C : ℝ) : EReal) := by
    unfold rawRow
    rw [Finset.sum_mul, ← sum_coe]
    refine Finset.sum_congr rfl fun m _ => ?_
    rw [hraw]
    have : padded (v m) 1 64 = 1 := rfl
    rw [this, one_mul]
  have hWC : 0 < (∑ n, w n) * C := mul_pos hW hC
  unfold attend
  simp only [hweight]
  rw [h1, h2, Ideal.div_coe hWC.ne', sum_coe, mul_sum_of_nonneg _ _ (by positivity)]
  refine Finset.sum_congr rfl fun m _ => ?_
  rw [Ideal.div_coe hW.ne', mul_assoc, mul_comm (_ * _ : EReal) (v m d), ← EReal.coe_mul, ← EReal.coe_mul]
  congr 2
  field_simp

/-- A projection of real rows and weights is a real. -/
theorem proj_coe (X : (⟨3, ![1, 2048, 1024]⟩ : Shape).Idx → ℝ) (W : (⟨2, ![1024, 1024]⟩ : Shape).Idx → ℝ)
    (b : (⟨1, ![1024]⟩ : Shape).Idx → ℝ) (h : Fin 16) (l : Fin 2048) (d : Fin 64) :
    proj (fun i => (X i : EReal)) (fun i => (W i : EReal)) (fun i => (b i : EReal)) h l d
      = (((∑ c : Fin 1024, X (ix3 0 l c) * W (ix2 (col h d) c)) + b (ix1 (col h d)) : ℝ) : EReal) := by
  unfold proj
  rw [EReal.coe_add, ← sum_coe]
  refine congrArg (· + (b (ix1 (col h d)) : EReal)) ?_
  exact Finset.sum_congr rfl fun c _ => (EReal.coe_mul _ _).symm

end Cert.Attention

end
-- ==== Proof.Equation.lean ====
/-
  The equation: where queries and keys are real, the kernel's projected quotients are the reference's projected attention.
-/
module

public import proofs.«01_k».proof.Proof.Math

@[expose] public section

noncomputable section

namespace Cert.Attention

open Idealize.ShloMosaic

/-- A projection of real numbers by real numbers is a real number. -/
theorem proj_real (X : (⟨3, ![1, 2048, 1024]⟩ : Shape).Idx → EReal) (W : (⟨2, ![1024, 1024]⟩ : Shape).Idx → EReal)
    (b : (⟨1, ![1024]⟩ : Shape).Idx → EReal) (hX : ∀ i, ∃ r : ℝ, (r : EReal) = X i) (hW : ∀ i, ∃ r : ℝ, (r : EReal) = W i)
    (hb : ∀ i, ∃ r : ℝ, (r : EReal) = b i) (h : Fin 16) (l : Fin 2048) (d : Fin 64) : ∃ r : ℝ, (r : EReal) = proj X W b h l d := by
  choose X' hX using hX
  choose W' hW using hW
  choose b' hb using hb
  rw [← funext hX, ← funext hW, ← funext hb, proj_coe]
  exact ⟨_, rfl⟩

/-- The kernel's quotient is the softmax attention, for real queries and keys. -/
theorem quotient_of_real (q k v : Fin 2048 → Fin 64 → EReal) (hq : ∀ l d, ∃ r : ℝ, (r : EReal) = q l d) (hk : ∀ l d, ∃ r : ℝ, (r : EReal) = k l d)
    (l : Fin 2048) (d : Fin 64) :
    Ideal.div (rawRow (fun d => q l d * (((Real.log 2)⁻¹ * 8⁻¹ : ℝ) : EReal)) k v (d.castLE (by omega)))
        (rawRow (fun d => q l d * (((Real.log 2)⁻¹ * 8⁻¹ : ℝ) : EReal)) k v 64)
      = attend (score q k l) (fun m => v m d) := by
  choose q' hq using hq
  choose k' hk using hk
  obtain rfl : (fun l d => (q' l d : EReal)) = q := funext fun l => funext (hq l)
  obtain rfl : (fun l d => (k' l d : EReal)) = k := funext fun l => funext (hk l)
  exact quotient_eq_attend q' k' v l d

/-- The kernel's result and the reference's, over the same arrays. The values and the output projection may be infinite. -/
theorem kernel_eq_reference (Q K V : (⟨3, ![1, 2048, 1024]⟩ : Shape).Idx → EReal) (Wq Wk Wv Wo : (⟨2, ![1024, 1024]⟩ : Shape).Idx → EReal)
    (bq bk bv bo : (⟨1, ![1024]⟩ : Shape).Idx → EReal)
    (hQ : ∀ i, ∃ r : ℝ, (r : EReal) = Q i) (hK : ∀ i, ∃ r : ℝ, (r : EReal) = K i) (hWq : ∀ i, ∃ r : ℝ, (r : EReal) = Wq i)
    (hbq : ∀ i, ∃ r : ℝ, (r : EReal) = bq i) (hWk : ∀ i, ∃ r : ℝ, (r : EReal) = Wk i) (hbk : ∀ i, ∃ r : ℝ, (r : EReal) = bk i)
    (l : Fin 2048) (j : Fin 1024) :
    outProj (fun h d =>
        Ideal.div
          (rawRow (fun d => proj Q Wq bq h l d * (((Real.log 2)⁻¹ * 8⁻¹ : ℝ) : EReal)) (fun n d => proj K Wk bk h n d) (fun n d => proj V Wv bv h n d)
            (d.castLE (by omega)))
          (rawRow (fun d => proj Q Wq bq h l d * (((Real.log 2)⁻¹ * 8⁻¹ : ℝ) : EReal)) (fun n d => proj K Wk bk h n d) (fun n d => proj V Wv bv h n d) 64))
      Wo bo j
      = outProj (fun h d => attend (score (fun l d => proj Q Wq bq h l d) (fun l d => proj K Wk bk h l d) l) (fun m => proj V Wv bv h m d)) Wo bo j := by
  refine congrArg (fun f => outProj f Wo bo j) (funext fun h => funext fun d => ?_)
  exact quotient_of_real (fun l d => proj Q Wq bq h l d) (fun l d => proj K Wk bk h l d) _
    (fun l d => proj_real Q Wq bq hQ hWq hbq h l d) (fun l d => proj_real K Wk bk hK hWk hbk h l d) l d

end Cert.Attention
-- ==== Proof.lean ====
/-
  The certificate: the kernel and its ideal reading run and leave their arguments, the named constant is the one the ledger
  states, and over the extended reals the kernel's result is the reference's.
-/
module

public import proofs.«01_k».proof.Defs
public import proofs.«01_k».proof.Proof.Gen.Kernel.Frame
public import proofs.«01_k».proof.Proof.RefOut
public import proofs.«01_k».proof.Proof.Result
public import proofs.«01_k».proof.Proof.Launch
public import proofs.«01_k».proof.Proof.Finite
public import proofs.«01_k».proof.Proof.Equation
public import Idealize.ShloMosaic.Lib.Quiescent

@[expose] public section

set_option maxRecDepth 16384

noncomputable section

namespace Cert.Proof

open Idealize.ShloMosaic Idealize.SL.Sem

/-- The reference runs, leaves its arguments, and declares no semaphore. -/
theorem frameReference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are equal, element by element, where the scores' inputs are real. -/
theorem results (m : (ℓ : Loc Cert.KernelIdeal.nD Cert.KernelIdeal.τ Cert.KernelIdeal.sig) → Buf (Elt Ideal) ℓ) (ρ : Dev Cert.KernelIdeal.nD → PrngReg)
    (V0 : Valuation Cert.ReferenceIdeal.τ Cert.ReferenceIdeal.sig (Elt Ideal)) (c : Dev Cert.KernelIdeal.nD)
    (hpre : @Cert.Pre_KernelIdeal_finite_scores Cert.Attention.finiteFacts m)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10)) :
    (Cert.ReferenceIdeal.Value.val3 V0 (Proc.devRef .tc Cert.ReferenceIdeal.main_v102) : Cert.KernelIdeal.S1x2048x1024.Idx → EReal)
      = Cert.KernelIdeal.Gen.W6 m ρ c (Proc.devRef .tc Cert.KernelIdeal.main_v17) := by
  funext i
  obtain ⟨z, l, j, rfl⟩ : ∃ (z : Fin 1) (l : Fin 2048) (j : Fin 1024), i = ix3 z l j := ⟨_, _, _, eq_ix3 i⟩
  obtain rfl : z = 0 := Subsingleton.elim _ _
  refine (Cert.ReferenceIdeal.Read.output V0 l j).trans (Eq.trans ?_ (Cert.KernelIdeal.Read.result m ρ c l j).symm)
  obtain ⟨r0, r1, r3, r4, r5, r6⟩ := @Cert.Attention.real_of_finite Cert.Attention.finiteFacts _ _ _ _ _ _ _ _ _ _ _ (hpre c)
  rw [h0, h1, h2, h3, h4, h5, h6, h7, h8, h9, h10]
  exact (Cert.Attention.kernel_eq_reference _ _ _ _ _ _ _ _ _ _ _ r0 r1 r3 r4 r5 r6 l j).symm

/-- The reference's run, its result named by the contents it ends with. -/
theorem runReference (m : (ℓ : Loc Cert.ReferenceIdeal.nD Cert.ReferenceIdeal.τ Cert.ReferenceIdeal.sig) → Buf (Elt Ideal) ℓ)
    (ρ : Dev Cert.ReferenceIdeal.nD → PrngReg)
    (v : (c : Dev Cert.ReferenceIdeal.nD) → Buf (Elt Ideal) ((c.tc : Thread Cert.ReferenceIdeal.nD Cert.ReferenceIdeal.τ).loc Cert.ReferenceIdeal.main_v102))
    (hv : ∀ c, Cert.ReferenceIdeal.Value.val3 (StableHlo.launchContents m c) (Proc.devRef .tc Cert.ReferenceIdeal.main_v102) = v c) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v102) = v c
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run Cert.ReferenceIdeal.defs _ _).mono
    (fun r h c => ⟨((h c).1.trans (Cert.ReferenceIdeal.Value.val3_main_v102 (StableHlo.launchContents m c)).symm).trans (hv c), (h c).2⟩)
    (Cert.ReferenceIdeal.Value.run (F := Ideal) m ρ)

/-- The kernel's ideal reading and the reference's end with equal results. -/
theorem algebraic : @Cert.algebraic_KernelIdeal_ReferenceIdeal_pre_finite_scores Cert.KernelIdeal.Gen.facts Cert.ReferenceIdeal.Gen.facts
    Cert.Attention.finiteFacts := by
  intro m ρ m' ρ' hpre hagree
  refine ⟨fun c => Cert.KernelIdeal.Gen.W6 m ρ c (Proc.devRef .tc Cert.KernelIdeal.main_v17), Cert.KernelIdeal.Read.run (F := Ideal) m ρ,
    runReference m' ρ' _ fun c => ?_⟩
  have h := hagree c
  exact results m ρ (StableHlo.launchContents m' c) c hpre h.1 h.2.1 h.2.2.1 h.2.2.2.1 h.2.2.2.2.1 h.2.2.2.2.2.1 h.2.2.2.2.2.2.1
    h.2.2.2.2.2.2.2.1 h.2.2.2.2.2.2.2.2.1 h.2.2.2.2.2.2.2.2.2.1 h.2.2.2.2.2.2.2.2.2.2

/-- Everything claimed. -/
theorem claim : Cert.Claim :=
  ⟨Cert.Kernel.Gen.facts, Cert.KernelIdeal.Gen.facts, Cert.ReferenceIdeal.Gen.facts, Cert.Attention.finiteFacts,
    fun m ρ _ => Cert.Kernel.Gen.frame m ρ, fun m ρ _ => Cert.KernelIdeal.Gen.frame m ρ, fun m ρ _ => Cert.KernelIdeal.Gen.frame m ρ,
    frameReference, fun m ρ _ => frameReference m ρ trivial,
    IdealRules.named_const.statement Cert.KernelIdeal.κ "log2e_8" .f32 0x3E38AA3B#32 _ rfl, algebraic⟩

end Cert.Proof

end
